-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1048576x100 : Shape := ⟨2, ![1048576, 100]⟩
abbrev S1048576 : Shape := ⟨1, ![1048576]⟩
abbrev S_ : Shape := ⟨0, ![]⟩

class Facts : Prop where
  bcast_S_S1048576x100 : S_.BroadcastsInDim S1048576x100 (![] : Fin 0 → Fin S1048576x100.rank)
  reducesTo_S1048576x100_S_d0_1 : S1048576x100.ReducesTo [0, 1] S_
  h_S_ : 0 < S_.numel

variable [Facts]

def fn {F : FTy → Type} [FloatOps F] (main_arg0 : FVec F S1048576x100 .f32) (main_arg1 : IVec S1048576 32) : IVec S_ 1 :=
  let main_v0 : FVec F S1048576x100 .f32 := Host.absf main_arg0
  let main_cst : FVec F S_ .f32 := constant S_ .f32 0x7F800000#32
  let main_v1 : FVec F S1048576x100 .f32 := broadcastInDim S1048576x100 ![] bcast_S_S1048576x100 main_cst
  let main_v2 : IVec S1048576x100 1 := cmpf .olt main_v0 main_v1
  let main_c : IVec S_ 1 := constantI S_ 1 1#1
  let main_v3 : IVec S_ 1 := (fun x v => Host.reduce IntOp.andi x v reducesTo_S1048576x100_S_d0_1 h_S_) main_v2 main_c
  main_v3
-- ==== Kernel.lean ====
abbrev S1048576x100 : Shape := ⟨2, ![1048576, 100]⟩
abbrev S1048576 : Shape := ⟨1, ![1048576]⟩
abbrev S_ : Shape := ⟨0, ![]⟩
abbrev S10 : Shape := ⟨1, ![10]⟩
abbrev S1 : Shape := ⟨1, ![1]⟩
abbrev S11 : Shape := ⟨1, ![11]⟩
abbrev S512x1x2048 : Shape := ⟨3, ![512, 1, 2048]⟩
abbrev S2048x100 : Shape := ⟨2, ![2048, 100]⟩
abbrev S1x1x2048 : Shape := ⟨3, ![1, 1, 2048]⟩
abbrev S2048 : Shape := ⟨1, ![2048]⟩
abbrev S2048x1 : Shape := ⟨2, ![2048, 1]⟩
abbrev S32x3x16 : Shape := ⟨3, ![32, 3, 16]⟩
abbrev S16384 : Shape := ⟨1, ![16384]⟩
abbrev S256 : Shape := ⟨1, ![256]⟩
abbrev S3x16 : Shape := ⟨2, ![3, 16]⟩
abbrev S16 : Shape := ⟨1, ![16]⟩
abbrev S1x16 : Shape := ⟨2, ![1, 16]⟩
abbrev S1x3x16 : Shape := ⟨3, ![1, 3, 16]⟩
abbrev S1x10 : Shape := ⟨2, ![1, 10]⟩

abbrev nBuf : Table → Nat
  | .hbm => 68
  | .local .tc .vmem => 10
  | .local .tc .smem => 1
  | .local .scVector .vmem => 7
  | _ => 0

abbrev bufTy : (tb : Table) → Fin (nBuf tb) → BufTy
  | .hbm, ⟨0, _⟩ => ⟨S1048576x100, .f32⟩
  | .hbm, ⟨1, _⟩ => ⟨S1048576, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S1, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S1, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S1, .f32⟩
  | .hbm, ⟨24, _⟩ => ⟨S11, .f32⟩
  | .hbm, ⟨25, _⟩ => ⟨S512x1x2048, .i32⟩
  | .hbm, ⟨26, _⟩ => ⟨S512x1x2048, .f32⟩
  | .hbm, ⟨27, _⟩ => ⟨S512x1x2048, .f32⟩
  | .hbm, ⟨28, _⟩ => ⟨S512x1x2048, .i32⟩
  | .hbm, ⟨29, _⟩ => ⟨S1048576, .i32⟩
  | .hbm, ⟨30, _⟩ => ⟨S1048576, .f32⟩
  | .hbm, ⟨31, _⟩ => ⟨S1048576, .f32⟩
  | .hbm, ⟨32, _⟩ => ⟨S32x3x16, .f32⟩
  | .hbm, ⟨33, _⟩ => ⟨S_, .f32⟩
  | .hbm, ⟨34, _⟩ => ⟨S3x16, .f32⟩
  | .hbm, ⟨35, _⟩ => ⟨S1x10, .f32⟩
  | .hbm, ⟨36, _⟩ => ⟨S10, .f32⟩
  | .hbm, ⟨37, _⟩ => ⟨S1x10, .f32⟩
  | .hbm, ⟨38, _⟩ => ⟨S10, .f32⟩
  | .hbm, ⟨39, _⟩ => ⟨S1x10, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S10, .f32⟩
  | .hbm, ⟨54, _⟩ => ⟨S10, .i1⟩
  | .hbm, ⟨55, _⟩ => ⟨S_, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S1x16, .f32⟩
  | .hbm, ⟨63, _⟩ => ⟨S16, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local .tc .vmem, ⟨0, _⟩ => ⟨S2048x100, .f32⟩
  | .local .tc .vmem, ⟨1, _⟩ => ⟨S2048x100, .f32⟩
  | .local .tc .vmem, ⟨2, _⟩ => ⟨S1x1x2048, .i32⟩
  | .local .tc .vmem, ⟨3, _⟩ => ⟨S1x1x2048, .i32⟩
  | .local .tc .vmem, ⟨4, _⟩ => ⟨S1x1x2048, .f32⟩
  | .local .tc .vmem, ⟨5, _⟩ => ⟨S1x1x2048, .f32⟩
  | .local .tc .vmem, ⟨6, _⟩ => ⟨S1x1x2048, .f32⟩
  | .local .tc .vmem, ⟨7, _⟩ => ⟨S1x1x2048, .f32⟩
  | .local .tc .vmem, ⟨8, _⟩ => ⟨S1x1x2048, .i32⟩
  | .local .tc .vmem, ⟨9, _⟩ => ⟨S1x1x2048, .i32⟩
  | .local .tc .smem, ⟨0, _⟩ => ⟨S11, .f32⟩
  | .local .scVector .vmem, ⟨0, _⟩ => ⟨S16384, .i32⟩
  | .local .scVector .vmem, ⟨1, _⟩ => ⟨S16384, .f32⟩
  | .local .scVector .vmem, ⟨2, _⟩ => ⟨S16384, .f32⟩
  | .local .scVector .vmem, ⟨3, _⟩ => ⟨S256, .f32⟩
  | .local .scVector .vmem, ⟨4, _⟩ => ⟨S256, .f32⟩
  | .local .scVector .vmem, ⟨5, _⟩ => ⟨S256, .f32⟩
  | .local .scVector .vmem, ⟨6, _⟩ => ⟨S3x16, .f32⟩
  | _, _ => ⟨S1048576x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2_0 : Ref sig .tc := ⟨.hbm, 26, rfl⟩
abbrev main_v2_1 : Ref sig .tc := ⟨.hbm, 27, rfl⟩
abbrev main_v2_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v3_scv : Ref sig .scVector := ⟨.hbm, 29, rfl⟩
abbrev main_v4_scv : Ref sig .scVector := ⟨.hbm, 30, rfl⟩
abbrev main_v5_scv : Ref sig .scVector := ⟨.hbm, 31, rfl⟩
abbrev main_v6_scv : Ref sig .scVector := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![512], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v55 : BitVec 32 := Scalar.muli v1 c32768_i32
  let v56 : BitVec 32 := Scalar.addi v55 c0_i32
  ![v56.toNat]
@[reducible] def k1_t1_loop : Scf.Loop 32 :=
  let c0_i32_34 : BitVec 32 := 0#32
  let c1024_i32 : BitVec 32 := 1024#32
  let v57 : BitVec 32 := Scalar.addi c0_i32_34 c1024_i32
  let c1_i32 : BitVec 32 := 1#32
  ⟨c0_i32_34, v57, c1_i32⟩
def k1_off2 (k1_t1 : Fin k1_t1_loop.trips) : Fin 1 → Nat :=
  let c0_i32_34 : BitVec 32 := 0#32
  let c1_i32 : BitVec 32 := 1#32
  let arg13 : BitVec 32 := Scf.iv c0_i32_34 c1_i32 k1_t1
  let c16_i32_95 : BitVec 32 := 16#32
  let v164 : BitVec 32 := Scalar.muli arg13 c16_i32_95
  let v165 : Index := Scalar.indexCast v164
  ![v165.toNat]

def k1_chk1 (v173 : IVec S16 32) : Prop :=
  (∀ a x, ((![v173] : Fin 1 → IVec S16 32) a x).toNat < S256.size a) ∧
  (∀ a x, ((![v173] : Fin 1 → IVec S16 32) a x).toNat < S256.size a) ∧
  (∀ a x, ((![v173] : Fin 1 → IVec S16 32) a x).toNat < S256.size a)
theorem k1_idx1_inb : ∀ (v173 : IVec S16 32) (k1_hw1 : k1_chk1 v173), ∀ a x, ((![v173] : Fin 1 → IVec S16 32) a x).toNat < S256.size a := fun v173 k1_hw1 => k1_hw1.1
theorem k1_idx2_inb : ∀ (v173 : IVec S16 32) (k1_hw1 : k1_chk1 v173), ∀ a x, ((![v173] : Fin 1 → IVec S16 32) a x).toNat < S256.size a := fun v173 k1_hw1 => k1_hw1.2.1
theorem k1_idx3_inb : ∀ (v173 : IVec S16 32) (k1_hw1 : k1_chk1 v173), ∀ a x, ((![v173] : Fin 1 → IVec S16 32) a x).toNat < S256.size a := fun v173 k1_hw1 => k1_hw1.2.2
@[reducible] def k1_t2_loop : Scf.Loop 32 :=
  let c0_i32_37 : BitVec 32 := 0#32
  let c1024_i32_38 : BitVec 32 := 1024#32
  let v60 : BitVec 32 := Scalar.addi c0_i32_37 c1024_i32_38
  let c1_i32_39 : BitVec 32 := 1#32
  ⟨c0_i32_37, v60, c1_i32_39⟩
def k1_off3 (k1_t2 : Fin k1_t2_loop.trips) : Fin 1 → Nat :=
  let c0_i32_37 : BitVec 32 := 0#32
  let c1_i32_39 : BitVec 32 := 1#32
  let arg13 : BitVec 32 := Scf.iv c0_i32_37 c1_i32_39 k1_t2
  let c16_i32_95 : BitVec 32 := 16#32
  let v164 : BitVec 32 := Scalar.muli arg13 c16_i32_95
  let v165 : Index := Scalar.indexCast v164
  ![v165.toNat]

def k1_chk2 (v173 : IVec S16 32) : Prop :=
  (∀ a x, ((![v173] : Fin 1 → IVec S16 32) a x).toNat < S256.size a) ∧
  (∀ a x, ((![v173] : Fin 1 → IVec S16 32) a x).toNat < S256.size a) ∧
  (∀ a x, ((![v173] : Fin 1 → IVec S16 32) a x).toNat < S256.size a)
theorem k1_idx4_inb : ∀ (v173 : IVec S16 32) (k1_hw2 : k1_chk2 v173), ∀ a x, ((![v173] : Fin 1 → IVec S16 32) a x).toNat < S256.size a := fun v173 k1_hw2 => k1_hw2.1
theorem k1_idx5_inb : ∀ (v173 : IVec S16 32) (k1_hw2 : k1_chk2 v173), ∀ a x, ((![v173] : Fin 1 → IVec S16 32) a x).toNat < S256.size a := fun v173 k1_hw2 => k1_hw2.2.1
theorem k1_idx6_inb : ∀ (v173 : IVec S16 32) (k1_hw2 : k1_chk2 v173), ∀ a x, ((![v173] : Fin 1 → IVec S16 32) a x).toNat < S256.size a := fun v173 k1_hw2 => k1_hw2.2.2
def k1_off4 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_95_r6 : BitVec 32 := 0#32
  let c0_i32_96_r6 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x100 : Shape := ⟨2, ![1048576, 100]⟩
abbrev S1048576 : Shape := ⟨1, ![1048576]⟩
abbrev S_ : Shape := ⟨0, ![]⟩
abbrev S1048576x1 : Shape := ⟨2, ![1048576, 1]⟩
abbrev S10 : Shape := ⟨1, ![10]⟩
abbrev S1 : Shape := ⟨1, ![1]⟩
abbrev S11 : Shape := ⟨1, ![11]⟩

abbrev nBuf : Space → Nat
  | .hbm => 397
  | .vmem => 0
  | .smem => 0
  | _ => 0

abbrev hbmTy0_0 (i : Nat) : BufTy := match i % 128 with
  | 0 => ⟨S1048576x100, .f32⟩
  | 1 => ⟨S1048576, .i32⟩
  | 2 => ⟨S_, .f32⟩
  | 3 => ⟨S1048576, .f32⟩
  | 4 => ⟨S_, .f32⟩
  | 5 => ⟨S1048576, .f32⟩
  | 6 => ⟨S1048576, .f32⟩
  | 7 => ⟨S1048576x1, .f32⟩
  | 8 => ⟨S1048576x100, .f32⟩
  | 9 => ⟨S1048576x100, .f32⟩
  | 10 => ⟨S1048576x100, .f32⟩
  | 11 => ⟨S_, .f32⟩
  | 12 => ⟨S1048576, .f32⟩
  | 13 => ⟨S1048576x1, .f32⟩
  | 14 => ⟨S1048576x100, .f32⟩
  | 15 => ⟨S1048576x100, .f32⟩
  | 16 => ⟨S_, .f32⟩
  | 17 => ⟨S1048576, .f32⟩
  | 18 => ⟨S1048576x100, .i32⟩
  | 19 => ⟨S_, .f32⟩
  | 20 => ⟨S_, .i32⟩
  | 21 => ⟨S1048576, .f32⟩
  | 22 => ⟨S1048576, .i32⟩
  | 23 => ⟨S1048576, .i1⟩
  | 24 => ⟨S1048576, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S10, .f32⟩
  | 37 => ⟨S_, .f32⟩
  | 38 => ⟨S10, .f32⟩
  | 39 => ⟨S10, .f32⟩
  | 40 => ⟨S1, .f32⟩
  | 41 => ⟨S_, .f32⟩
  | 42 => ⟨S10, .f32⟩
  | 43 => ⟨S10, .f32⟩
  | 44 => ⟨S10, .f32⟩
  | 45 => ⟨S10, .f32⟩
  | 46 => ⟨S1, .f32⟩
  | 47 => ⟨S10, .f32⟩
  | 48 => ⟨S10, .f32⟩
  | 49 => ⟨S10, .f32⟩
  | 50 => ⟨S1, .f32⟩
  | 51 => ⟨S11, .f32⟩
  | 52 => ⟨S10, .f32⟩
  | 53 => ⟨S10, .f32⟩
  | 54 => ⟨S1048576, .f32⟩
  | 55 => ⟨S_, .f32⟩
  | 56 => ⟨S1, .f32⟩
  | 57 => ⟨S1, .f32⟩
  | 58 => ⟨S_, .f32⟩
  | 59 => ⟨S1048576, .f32⟩
  | 60 => ⟨S1048576, .i1⟩
  | 61 => ⟨S1, .f32⟩
  | 62 => ⟨S_, .f32⟩
  | 63 => ⟨S1048576, .f32⟩
  | 64 => ⟨S1048576, .i1⟩
  | 65 => ⟨S1048576, .i1⟩
  | 66 => ⟨S1048576, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1048576, .f32⟩
  | 74 => ⟨S_, .f32⟩
  | 75 => ⟨S_, .f32⟩
  | 76 => ⟨S_, .f32⟩
  | 77 => ⟨S1048576, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S1, .f32⟩
  | 90 => ⟨S1, .f32⟩
  | 91 => ⟨S1, .f32⟩
  | 92 => ⟨S_, .f32⟩
  | 93 => ⟨S1048576, .f32⟩
  | 94 => ⟨S1048576, .i1⟩
  | 95 => ⟨S1, .f32⟩
  | 96 => ⟨S_, .f32⟩
  | 97 => ⟨S1048576, .f32⟩
  | 98 => ⟨S1048576, .i1⟩
  | 99 => ⟨S1048576, .i1⟩
  | 100 => ⟨S1048576, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1048576, .f32⟩
  | 108 => ⟨S_, .f32⟩
  | 109 => ⟨S_, .f32⟩
  | 110 => ⟨S_, .f32⟩
  | 111 => ⟨S1048576, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S1, .f32⟩
  | 124 => ⟨S1, .f32⟩
  | 125 => ⟨S1, .f32⟩
  | 126 => ⟨S_, .f32⟩
  | 127 => ⟨S1048576, .f32⟩
  | _ => ⟨S1048576x100, .f32⟩

abbrev hbmTy0_1 (i : Nat) : BufTy := match i % 128 with
  | 0 => ⟨S1048576, .i1⟩
  | 1 => ⟨S1, .f32⟩
  | 2 => ⟨S_, .f32⟩
  | 3 => ⟨S1048576, .f32⟩
  | 4 => ⟨S1048576, .i1⟩
  | 5 => ⟨S1048576, .i1⟩
  | 6 => ⟨S1048576, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1048576, .f32⟩
  | 14 => ⟨S_, .f32⟩
  | 15 => ⟨S_, .f32⟩
  | 16 => ⟨S_, .f32⟩
  | 17 => ⟨S1048576, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S1, .f32⟩
  | 30 => ⟨S1, .f32⟩
  | 31 => ⟨S1, .f32⟩
  | 32 => ⟨S_, .f32⟩
  | 33 => ⟨S1048576, .f32⟩
  | 34 => ⟨S1048576, .i1⟩
  | 35 => ⟨S1, .f32⟩
  | 36 => ⟨S_, .f32⟩
  | 37 => ⟨S1048576, .f32⟩
  | 38 => ⟨S1048576, .i1⟩
  | 39 => ⟨S1048576, .i1⟩
  | 40 => ⟨S1048576, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S1048576, .f32⟩
  | 48 => ⟨S_, .f32⟩
  | 49 => ⟨S_, .f32⟩
  | 50 => ⟨S_, .f32⟩
  | 51 => ⟨S1048576, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S1, .f32⟩
  | 64 => ⟨S1, .f32⟩
  | 65 => ⟨S1, .f32⟩
  | 66 => ⟨S_, .f32⟩
  | 67 => ⟨S1048576, .f32⟩
  | 68 => ⟨S1048576, .i1⟩
  | 69 => ⟨S1, .f32⟩
  | 70 => ⟨S_, .f32⟩
  | 71 => ⟨S1048576, .f32⟩
  | 72 => ⟨S1048576, .i1⟩
  | 73 => ⟨S1048576, .i1⟩
  | 74 => ⟨S1048576, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1048576, .f32⟩
  | 82 => ⟨S_, .f32⟩
  | 83 => ⟨S_, .f32⟩
  | 84 => ⟨S_, .f32⟩
  | 85 => ⟨S1048576, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S1, .f32⟩
  | 98 => ⟨S1, .f32⟩
  | 99 => ⟨S1, .f32⟩
  | 100 => ⟨S_, .f32⟩
  | 101 => ⟨S1048576, .f32⟩
  | 102 => ⟨S1048576, .i1⟩
  | 103 => ⟨S1, .f32⟩
  | 104 => ⟨S_, .f32⟩
  | 105 => ⟨S1048576, .f32⟩
  | 106 => ⟨S1048576, .i1⟩
  | 107 => ⟨S1048576, .i1⟩
  | 108 => ⟨S1048576, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1048576, .f32⟩
  | 116 => ⟨S_, .f32⟩
  | 117 => ⟨S_, .f32⟩
  | 118 => ⟨S_, .f32⟩
  | 119 => ⟨S1048576, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i1⟩
  | _ => ⟨S1048576x100, .f32⟩

abbrev hbmTy0_2 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S1, .f32⟩
  | 6 => ⟨S_, .f32⟩
  | 7 => ⟨S1048576, .f32⟩
  | 8 => ⟨S1048576, .i1⟩
  | 9 => ⟨S1, .f32⟩
  | 10 => ⟨S_, .f32⟩
  | 11 => ⟨S1048576, .f32⟩
  | 12 => ⟨S1048576, .i1⟩
  | 13 => ⟨S1048576, .i1⟩
  | 14 => ⟨S1048576, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1048576, .f32⟩
  | 22 => ⟨S_, .f32⟩
  | 23 => ⟨S_, .f32⟩
  | 24 => ⟨S_, .f32⟩
  | 25 => ⟨S1048576, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S1, .f32⟩
  | 38 => ⟨S1, .f32⟩
  | 39 => ⟨S1, .f32⟩
  | 40 => ⟨S_, .f32⟩
  | 41 => ⟨S1048576, .f32⟩
  | 42 => ⟨S1048576, .i1⟩
  | 43 => ⟨S1, .f32⟩
  | 44 => ⟨S_, .f32⟩
  | 45 => ⟨S1048576, .f32⟩
  | 46 => ⟨S1048576, .i1⟩
  | 47 => ⟨S1048576, .i1⟩
  | 48 => ⟨S1048576, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1048576, .f32⟩
  | 56 => ⟨S_, .f32⟩
  | 57 => ⟨S_, .f32⟩
  | 58 => ⟨S_, .f32⟩
  | 59 => ⟨S1048576, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S1, .f32⟩
  | 72 => ⟨S1, .f32⟩
  | 73 => ⟨S1, .f32⟩
  | 74 => ⟨S_, .f32⟩
  | 75 => ⟨S1048576, .f32⟩
  | 76 => ⟨S1048576, .i1⟩
  | 77 => ⟨S1, .f32⟩
  | 78 => ⟨S_, .f32⟩
  | 79 => ⟨S1048576, .f32⟩
  | 80 => ⟨S1048576, .i1⟩
  | 81 => ⟨S1048576, .i1⟩
  | 82 => ⟨S1048576, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S1048576, .f32⟩
  | 90 => ⟨S_, .f32⟩
  | 91 => ⟨S_, .f32⟩
  | 92 => ⟨S_, .f32⟩
  | 93 => ⟨S1048576, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S1, .f32⟩
  | 106 => ⟨S1, .f32⟩
  | 107 => ⟨S1, .f32⟩
  | 108 => ⟨S_, .f32⟩
  | 109 => ⟨S1048576, .f32⟩
  | 110 => ⟨S1048576, .i1⟩
  | 111 => ⟨S1, .f32⟩
  | 112 => ⟨S_, .f32⟩
  | 113 => ⟨S1048576, .f32⟩
  | 114 => ⟨S1048576, .i1⟩
  | 115 => ⟨S1048576, .i1⟩
  | 116 => ⟨S1048576, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1048576, .f32⟩
  | 124 => ⟨S_, .f32⟩
  | 125 => ⟨S_, .f32⟩
  | 126 => ⟨S_, .f32⟩
  | 127 => ⟨S1048576, .f32⟩
  | _ => ⟨S1048576x100, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S1, .f32⟩
  | 12 => ⟨S1, .f32⟩
  | _ => ⟨S1048576x100, .f32⟩

abbrev hbmTy (i : Nat) : BufTy := match i / 128 with
  | 0 => hbmTy0_0 i
  | 1 => hbmTy0_1 i
  | 2 => hbmTy0_2 i
  | 3 => hbmTy0_3 i
  | _ => ⟨S1048576x100, .f32⟩

abbrev bufTy : (tb : Table) → Fin (tcTables nBuf tb) → BufTy
  | .hbm, ⟨i, _⟩ => hbmTy i
  | _, _ => ⟨S1048576x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_7 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_cst_10 : Ref sig .tc := ⟨.hbm, 71, rfl⟩
abbrev main_v34 : Ref sig .tc := ⟨.hbm, 72, rfl⟩
abbrev main_v35 : Ref sig .tc := ⟨.hbm, 73, rfl⟩
abbrev main_cst_11 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_12 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_13 : Ref sig .tc := ⟨.hbm, 84, rfl⟩
abbrev main_v44 : Ref sig .tc := ⟨.hbm, 85, rfl⟩
abbrev main_cst_14 : Ref sig .tc := ⟨.hbm, 86, rfl⟩
abbrev main_call2_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_15 : Ref sig .tc := ⟨.hbm, 101, rfl⟩
abbrev main_v58 : Ref sig .tc := ⟨.hbm, 102, rfl⟩
abbrev main_cst_16 : Ref sig .tc := ⟨.hbm, 103, rfl⟩
abbrev main_v59 : Ref sig .tc := ⟨.hbm, 104, rfl⟩
abbrev main_cst_17 : Ref sig .tc := ⟨.hbm, 105, rfl⟩
abbrev main_v60 : Ref sig .tc := ⟨.hbm, 106, rfl⟩
abbrev main_v61 : Ref sig .tc := ⟨.hbm, 107, rfl⟩
abbrev main_cst_18 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_19 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_20 : Ref sig .tc := ⟨.hbm, 118, rfl⟩
abbrev main_v70 : Ref sig .tc := ⟨.hbm, 119, rfl⟩
abbrev main_cst_21 : Ref sig .tc := ⟨.hbm, 120, rfl⟩
abbrev main_call3_v0 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_22 : Ref sig .tc := ⟨.hbm, 135, rfl⟩
abbrev main_v84 : Ref sig .tc := ⟨.hbm, 136, rfl⟩
abbrev main_cst_23 : Ref sig .tc := ⟨.hbm, 137, rfl⟩
abbrev main_v85 : Ref sig .tc := ⟨.hbm, 138, rfl⟩
abbrev main_cst_24 : Ref sig .tc := ⟨.hbm, 139, rfl⟩
abbrev main_v86 : Ref sig .tc := ⟨.hbm, 140, rfl⟩
abbrev main_v87 : Ref sig .tc := ⟨.hbm, 141, rfl⟩
abbrev main_cst_25 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_26 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_27 : Ref sig .tc := ⟨.hbm, 152, rfl⟩
abbrev main_v96 : Ref sig .tc := ⟨.hbm, 153, rfl⟩
abbrev main_cst_28 : Ref sig .tc := ⟨.hbm, 154, rfl⟩
abbrev main_call4_v0 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_29 : Ref sig .tc := ⟨.hbm, 169, rfl⟩
abbrev main_v110 : Ref sig .tc := ⟨.hbm, 170, rfl⟩
abbrev main_cst_30 : Ref sig .tc := ⟨.hbm, 171, rfl⟩
abbrev main_v111 : Ref sig .tc := ⟨.hbm, 172, rfl⟩
abbrev main_cst_31 : Ref sig .tc := ⟨.hbm, 173, rfl⟩
abbrev main_v112 : Ref sig .tc := ⟨.hbm, 174, rfl⟩
abbrev main_v113 : Ref sig .tc := ⟨.hbm, 175, rfl⟩
abbrev main_cst_32 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_33 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_34 : Ref sig .tc := ⟨.hbm, 186, rfl⟩
abbrev main_v122 : Ref sig .tc := ⟨.hbm, 187, rfl⟩
abbrev main_cst_35 : Ref sig .tc := ⟨.hbm, 188, rfl⟩
abbrev main_call5_v0 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_36 : Ref sig .tc := ⟨.hbm, 203, rfl⟩
abbrev main_v136 : Ref sig .tc := ⟨.hbm, 204, rfl⟩
abbrev main_cst_37 : Ref sig .tc := ⟨.hbm, 205, rfl⟩
abbrev main_v137 : Ref sig .tc := ⟨.hbm, 206, rfl⟩
abbrev main_cst_38 : Ref sig .tc := ⟨.hbm, 207, rfl⟩
abbrev main_v138 : Ref sig .tc := ⟨.hbm, 208, rfl⟩
abbrev main_v139 : Ref sig .tc := ⟨.hbm, 209, rfl⟩
abbrev main_cst_39 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_cst_40 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_cst_41 : Ref sig .tc := ⟨.hbm, 220, rfl⟩
abbrev main_v148 : Ref sig .tc := ⟨.hbm, 221, rfl⟩
abbrev main_cst_42 : Ref sig .tc := ⟨.hbm, 222, rfl⟩
abbrev main_call6_v0 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_cst_43 : Ref sig .tc := ⟨.hbm, 237, rfl⟩
abbrev main_v162 : Ref sig .tc := ⟨.hbm, 238, rfl⟩
abbrev main_cst_44 : Ref sig .tc := ⟨.hbm, 239, rfl⟩
abbrev main_v163 : Ref sig .tc := ⟨.hbm, 240, rfl⟩
abbrev main_cst_45 : Ref sig .tc := ⟨.hbm, 241, rfl⟩
abbrev main_v164 : Ref sig .tc := ⟨.hbm, 242, rfl⟩
abbrev main_v165 : Ref sig .tc := ⟨.hbm, 243, rfl⟩
abbrev main_cst_46 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_cst_47 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_48 : Ref sig .tc := ⟨.hbm, 254, rfl⟩
abbrev main_v174 : Ref sig .tc := ⟨.hbm, 255, rfl⟩
abbrev main_cst_49 : Ref sig .tc := ⟨.hbm, 256, rfl⟩
abbrev main_call7_v0 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_cst_50 : Ref sig .tc := ⟨.hbm, 271, rfl⟩
abbrev main_v188 : Ref sig .tc := ⟨.hbm, 272, rfl⟩
abbrev main_cst_51 : Ref sig .tc := ⟨.hbm, 273, rfl⟩
abbrev main_v189 : Ref sig .tc := ⟨.hbm, 274, rfl⟩
abbrev main_cst_52 : Ref sig .tc := ⟨.hbm, 275, rfl⟩
abbrev main_v190 : Ref sig .tc := ⟨.hbm, 276, rfl⟩
abbrev main_v191 : Ref sig .tc := ⟨.hbm, 277, rfl⟩
abbrev main_cst_53 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_cst_54 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_cst_55 : Ref sig .tc := ⟨.hbm, 288, rfl⟩
abbrev main_v200 : Ref sig .tc := ⟨.hbm, 289, rfl⟩
abbrev main_cst_56 : Ref sig .tc := ⟨.hbm, 290, rfl⟩
abbrev main_call8_v0 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_cst_57 : Ref sig .tc := ⟨.hbm, 305, rfl⟩
abbrev main_v214 : Ref sig .tc := ⟨.hbm, 306, rfl⟩
abbrev main_cst_58 : Ref sig .tc := ⟨.hbm, 307, rfl⟩
abbrev main_v215 : Ref sig .tc := ⟨.hbm, 308, rfl⟩
abbrev main_cst_59 : Ref sig .tc := ⟨.hbm, 309, rfl⟩
abbrev main_v216 : Ref sig .tc := ⟨.hbm, 310, rfl⟩
abbrev main_v217 : Ref sig .tc := ⟨.hbm, 311, rfl⟩
abbrev main_cst_60 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_cst_61 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_cst_62 : Ref sig .tc := ⟨.hbm, 322, rfl⟩
abbrev main_v226 : Ref sig .tc := ⟨.hbm, 323, rfl⟩
abbrev main_cst_63 : Ref sig .tc := ⟨.hbm, 324, rfl⟩
abbrev main_call9_v0 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_cst_64 : Ref sig .tc := ⟨.hbm, 339, rfl⟩
abbrev main_v240 : Ref sig .tc := ⟨.hbm, 340, rfl⟩
abbrev main_cst_65 : Ref sig .tc := ⟨.hbm, 341, rfl⟩
abbrev main_v241 : Ref sig .tc := ⟨.hbm, 342, rfl⟩
abbrev main_cst_66 : Ref sig .tc := ⟨.hbm, 343, rfl⟩
abbrev main_v242 : Ref sig .tc := ⟨.hbm, 344, rfl⟩
abbrev main_v243 : Ref sig .tc := ⟨.hbm, 345, rfl⟩
abbrev main_cst_67 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_cst_68 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_cst_69 : Ref sig .tc := ⟨.hbm, 356, rfl⟩
abbrev main_v252 : Ref sig .tc := ⟨.hbm, 357, rfl⟩
abbrev main_cst_70 : Ref sig .tc := ⟨.hbm, 358, rfl⟩
abbrev main_call10_v0 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_cst_71 : Ref sig .tc := ⟨.hbm, 373, rfl⟩
abbrev main_v266 : Ref sig .tc := ⟨.hbm, 374, rfl⟩
abbrev main_cst_72 : Ref sig .tc := ⟨.hbm, 375, rfl⟩
abbrev main_v267 : Ref sig .tc := ⟨.hbm, 376, rfl⟩
abbrev main_cst_73 : Ref sig .tc := ⟨.hbm, 377, rfl⟩
abbrev main_v268 : Ref sig .tc := ⟨.hbm, 378, rfl⟩
abbrev main_v269 : Ref sig .tc := ⟨.hbm, 379, rfl⟩
abbrev main_cst_74 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_cst_75 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_cst_76 : Ref sig .tc := ⟨.hbm, 390, rfl⟩
abbrev main_v278 : Ref sig .tc := ⟨.hbm, 391, rfl⟩
abbrev main_cst_77 : Ref sig .tc := ⟨.hbm, 392, rfl⟩
abbrev main_call11_v0 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩

abbrev nD : Nat := 1
abbrev τ : Topo := Topo.v7x

variable {F : FTy → Type} [FloatOps F]
-- ==== Proof.Ops.lean ====
/-
  The host operations of the program around its two kernels, as three lists, and the program as these lists with the
  kernels between them.
-/
module

public import Idealize.ShloMosaic.Lib.StableHlo.Run
public import Idealize.ShloMosaic.Lib.StableHlo.RunRead
public import proofs.«01_k».proof.Proof.Gen.KernelIdeal

@[expose] public section

noncomputable section

namespace Cert.Proof.KI

open Cert.KernelIdeal Cert.KernelIdeal.Gen Cert.KernelIdeal.Facts

open Idealize.ShloMosaic
open Idealize.ShloMosaic.TcCoe
open Idealize.SL Idealize.SL.Sem
open Idealize.ShloMosaic.StableHlo (seq)

variable {F : FTy → Type} [FloatOps F]

/-- The bounds and the labels in blocks. -/
def opsA : List (HloOp τ sig (Elt F)) :=
  [StableHlo.nullary main_cst (constant S_ .f32 0x00000000#32),
   StableHlo.nullary main_cst_0 (constant S_ .f32 0x3F800000#32),
   StableHlo.unary main_cst main_call0_v0 (id : (⟨S_, .f32⟩ : BufTy).Contents (Elt F) → (⟨S_, .f32⟩ : BufTy).Contents (Elt F)),
   StableHlo.unary main_cst_0 main_call0_v1 (id : (⟨S_, .f32⟩ : BufTy).Contents (Elt F) → (⟨S_, .f32⟩ : BufTy).Contents (Elt F)),
   StableHlo.binary main_call0_v1 main_call0_v0 main_call0_v2 (subf : (⟨S_, .f32⟩ : BufTy).Contents (Elt F) → (⟨S_, .f32⟩ : BufTy).Contents (Elt F) → (⟨S_, .f32⟩ : BufTy).Contents (Elt F)),
   StableHlo.nullary main_call0_cst ((constant S_ .f32 0x41200000#32) : (⟨S_, .f32⟩ : BufTy).Contents (Elt F)),
   StableHlo.binary main_call0_v2 main_call0_cst main_call0_v3 (Host.divf : (⟨S_, .f32⟩ : BufTy).Contents (Elt F) → (⟨S_, .f32⟩ : BufTy).Contents (Elt F) → (⟨S_, .f32⟩ : BufTy).Contents (Elt F)),
   StableHlo.nullary main_call0_v4 ((sitofp .f32 (iotaInDim S10 32 0)) : (⟨S10, .f32⟩ : BufTy).Contents (Elt F)),
   StableHlo.nullary main_call0_cst_0 ((constant S_ .f32 0x41200000#32) : (⟨S_, .f32⟩ : BufTy).Contents (Elt F)),
   StableHlo.unary main_call0_cst_0 main_call0_v5 ((broadcastInDim S10 ![] bcast_S_S10) : (⟨S_, .f32⟩ : BufTy).Contents (Elt F) → (⟨S10, .f32⟩ : BufTy).Contents (Elt F)),
   StableHlo.binary main_call0_v4 main_call0_v5 main_call0_v6 (Host.divf : (⟨S10, .f32⟩ : BufTy).Contents (Elt F) → (⟨S10, .f32⟩ : BufTy).Contents (Elt F) → (⟨S10, .f32⟩ : BufTy).Contents (Elt F)),
   StableHlo.reshape main_call0_v0 main_call0_v7 (rfl : (.f32 : EltTy) = .f32) shapeCasts_S_S1,
   StableHlo.nullary main_call0_cst_1 ((constant S_ .f32 0x3F800000#32) : (⟨S_, .f32⟩ : BufTy).Contents (Elt F)),
   StableHlo.unary main_call0_cst_1 main_call0_v8 ((broadcastInDim S10 ![] bcast_S_S10) : (⟨S_, .f32⟩ : BufTy).Contents (Elt F) → (⟨S10, .f32⟩ : BufTy).Contents (Elt F)),
   StableHlo.binary main_call0_v8 main_call0_v6 main_call0_v9 (subf : (⟨S10, .f32⟩ : BufTy).Contents (Elt F) → (⟨S10, .f32⟩ : BufTy).Contents (Elt F) → (⟨S10, .f32⟩ : BufTy).Contents (Elt F)),
   StableHlo.unary main_call0_v7 main_call0_v10 ((broadcastInDim S10 ![0] bcast_S1_S10_0) : (⟨S1, .f32⟩ : BufTy).Contents (Elt F) → (⟨S10, .f32⟩ : BufTy).Contents (Elt F)),
   StableHlo.binary main_call0_v10 main_call0_v9 main_call0_v11 (mulf : (⟨S10, .f32⟩ : BufTy).Contents (Elt F) → (⟨S10, .f32⟩ : BufTy).Contents (Elt F) → (⟨S10, .f32⟩ : BufTy).Contents (Elt F)),
   StableHlo.reshape main_call0_v1 main_call0_v12 (rfl : (.f32 : EltTy) = .f32) shapeCasts_S_S1,
   StableHlo.unary main_call0_v12 main_call0_v13 ((broadcastInDim S10 ![0] bcast_S1_S10_0) : (⟨S1, .f32⟩ : BufTy).Contents (Elt F) → (⟨S10, .f32⟩ : BufTy).Contents (Elt F)),
   StableHlo.binary main_call0_v13 main_call0_v6 main_call0_v14 (mulf : (⟨S10, .f32⟩ : BufTy).Contents (Elt F) → (⟨S10, .f32⟩ : BufTy).Contents (Elt F) → (⟨S10, .f32⟩ : BufTy).Contents (Elt F)),
   StableHlo.binary main_call0_v11 main_call0_v14 main_call0_v15 (addf : (⟨S10, .f32⟩ : BufTy).Contents (Elt F) → (⟨S10, .f32⟩ : BufTy).Contents (Elt F) → (⟨S10, .f32⟩ : BufTy).Contents (Elt F)),
   StableHlo.unary main_call0_v1 main_call0_v16 ((broadcastInDim S1 ![] bcast_S_S1) : (⟨S_, .f32⟩ : BufTy).Contents (Elt F) → (⟨S1, .f32⟩ : BufTy).Contents (Elt F)),
   StableHlo.binary main_call0_v15 main_call0_v16 main_v0 ((fun a b => concatenate S11 0 [⟨S10, a⟩, ⟨S1, b⟩] concatenates_S10_S1_S11_d0) : (⟨S10, .f32⟩ : BufTy).Contents (Elt F) → (⟨S1, .f32⟩ : BufTy).Contents (Elt F) → (⟨S11, .f32⟩ : BufTy).Contents (Elt F)),
   StableHlo.reshape main_arg1 main_v1 (rfl : (.i32 : EltTy) = .i32) shapeCasts_S1048576_S512x1x2048]

/-- The dense results flattened. -/
def opsB : List (HloOp τ sig (Elt F)) :=
  [StableHlo.reshape main_v2_2 main_v3 (rfl : (.i32 : EltTy) = .i32) shapeCasts_S512x1x2048_S1048576,
   StableHlo.reshape main_v2_0 main_v4 (rfl : (.f32 : EltTy) = .f32) shapeCasts_S512x1x2048_S1048576,
   StableHlo.reshape main_v2_1 main_v5 (rfl : (.f32 : EltTy) = .f32) shapeCasts_S512x1x2048_S1048576]

/-- The histogram summed and the two results formed. -/
def opsC : List (HloOp τ sig (Elt F)) :=
  [StableHlo.nullary main_cst_1 (constant S_ .f32 0x00000000#32),
   StableHlo.binary main_v6 main_cst_1 main_v7 ((fun x v => Host.reduceAdd x v reducesTo_S32x3x16_S3x16_d0 h_S_) : (⟨S32x3x16, .f32⟩ : BufTy).Contents (Elt F) → (⟨S_, .f32⟩ : BufTy).Contents (Elt F) → (⟨S3x16, .f32⟩ : BufTy).Contents (Elt F)),
   StableHlo.unary main_v7 main_v8 ((extractStridedSlice S1x10 ![0, 0] · slices_S3x16_S1x10_0_0) : (⟨S3x16, .f32⟩ : BufTy).Contents (Elt F) → (⟨S1x10, .f32⟩ : BufTy).Contents (Elt F)),
   StableHlo.reshape main_v8 main_v9 (rfl : (.f32 : EltTy) = .f32) shapeCasts_S1x10_S10,
   StableHlo.unary main_v7 main_v10 ((extractStridedSlice S1x10 ![1, 0] · slices_S3x16_S1x10_1_0) : (⟨S3x16, .f32⟩ : BufTy).Contents (Elt F) → (⟨S1x10, .f32⟩ : BufTy).Contents (Elt F)),
   StableHlo.reshape main_v10 main_v11 (rfl : (.f32 : EltTy) = .f32) shapeCasts_S1x10_S10,
   StableHlo.unary main_v7 main_v12 ((extractStridedSlice S1x10 ![2, 0] · slices_S3x16_S1x10_2_0) : (⟨S3x16, .f32⟩ : BufTy).Contents (Elt F) → (⟨S1x10, .f32⟩ : BufTy).Contents (Elt F)),
   StableHlo.reshape main_v12 main_v13 (rfl : (.f32 : EltTy) = .f32) shapeCasts_S1x10_S10,
   StableHlo.nullary main_cst_2 (constant S_ .f32 0x3F800000#32),
   StableHlo.unary main_cst_2 main_v14 (broadcastInDim S10 ![] bcast_S_S10 : (⟨S_, .f32⟩ : BufTy).Contents (Elt F) → (⟨S10, .f32⟩ : BufTy).Contents (Elt F)),
   StableHlo.binary main_v9 main_v14 main_v15 (maximumf : (⟨S10, .f32⟩ : BufTy).Contents (Elt F) → (⟨S10, .f32⟩ : BufTy).Contents (Elt F) → (⟨S10, .f32⟩ : BufTy).Contents (Elt F)),
   StableHlo.binary main_v11 main_v15 main_v16 (Host.divf : (⟨S10, .f32⟩ : BufTy).Contents (Elt F) → (⟨S10, .f32⟩ : BufTy).Contents (Elt F) → (⟨S10, .f32⟩ : BufTy).Contents (Elt F)),
   StableHlo.binary main_v13 main_v15 main_v17 (Host.divf : (⟨S10, .f32⟩ : BufTy).Contents (Elt F) → (⟨S10, .f32⟩ : BufTy).Contents (Elt F) → (⟨S10, .f32⟩ : BufTy).Contents (Elt F)),
   StableHlo.binary main_v16 main_v17 main_v18 (subf : (⟨S10, .f32⟩ : BufTy).Contents (Elt F) → (⟨S10, .f32⟩ : BufTy).Contents (Elt F) → (⟨S10, .f32⟩ : BufTy).Contents (Elt F)),
   StableHlo.unary main_v18 main_v19 (Host.absf : (⟨S10, .f32⟩ : BufTy).Contents (Elt F) → (⟨S10, .f32⟩ : BufTy).Contents (Elt F)),
   StableHlo.nullary main_cst_3 (constant S_ .f32 0x49800000#32),
   StableHlo.unary main_cst_3 main_v20 (broadcastInDim S10 ![] bcast_S_S10 : (⟨S_, .f32⟩ : BufTy).Contents (Elt F) → (⟨S10, .f32⟩ : BufTy).Contents (Elt F)),
   StableHlo.binary main_v9 main_v20 main_v21 (Host.divf : (⟨S10, .f32⟩ : BufTy).Contents (Elt F) → (⟨S10, .f32⟩ : BufTy).Contents (Elt F) → (⟨S10, .f32⟩ : BufTy).Contents (Elt F)),
   StableHlo.binary main_v19 main_v21 main_v22 (mulf : (⟨S10, .f32⟩ : BufTy).Contents (Elt F) → (⟨S10, .f32⟩ : BufTy).Contents (Elt F) → (⟨S10, .f32⟩ : BufTy).Contents (Elt F)),
   StableHlo.nullary main_cst_4 (constant S_ .f32 0x00000000#32),
   StableHlo.unary main_cst_4 main_v23 (broadcastInDim S10 ![] bcast_S_S10 : (⟨S_, .f32⟩ : BufTy).Contents (Elt F) → (⟨S10, .f32⟩ : BufTy).Contents (Elt F)),
   StableHlo.binary main_v9 main_v23 main_v24 (cmpf .ogt : (⟨S10, .f32⟩ : BufTy).Contents (Elt F) → (⟨S10, .f32⟩ : BufTy).Contents (Elt F) → (⟨S10, .i1⟩ : BufTy).Contents (Elt F)),
   StableHlo.nullary main_cst_5 (constant S_ .f32 0x00000000#32),
   StableHlo.unary main_cst_5 main_call1_v0 (id : (⟨S_, .f32⟩ : BufTy).Contents (Elt F) → (⟨S_, .f32⟩ : BufTy).Contents (Elt F)),
   StableHlo.unary main_call1_v0 main_call1_v1 ((broadcastInDim S10 ![] bcast_S_S10) : (⟨S_, .f32⟩ : BufTy).Contents (Elt F) → (⟨S10, .f32⟩ : BufTy).Contents (Elt F)),
   StableHlo.ternary main_v24 main_v22 main_call1_v1 main_v25 (select : (⟨S10, .i1⟩ : BufTy).Contents (Elt F) → (⟨S10, .f32⟩ : BufTy).Contents (Elt F) → (⟨S10, .f32⟩ : BufTy).Contents (Elt F) → (⟨S10, .f32⟩ : BufTy).Contents (Elt F)),
   StableHlo.nullary main_cst_6 (constant S_ .f32 0x00000000#32),
   StableHlo.binary main_v25 main_cst_6 main_v26 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
   StableHlo.unary main_v26 main_v27 (broadcastInDim S1 ![] bcast_S_S1 : (⟨S_, .f32⟩ : BufTy).Contents (Elt F) → (⟨S1, .f32⟩ : BufTy).Contents (Elt F)),
   StableHlo.unary main_v7 main_v28 ((extractStridedSlice S1x16 ![2, 0] · slices_S3x16_S1x16_2_0) : (⟨S3x16, .f32⟩ : BufTy).Contents (Elt F) → (⟨S1x16, .f32⟩ : BufTy).Contents (Elt F)),
   StableHlo.reshape main_v28 main_v29 (rfl : (.f32 : EltTy) = .f32) shapeCasts_S1x16_S16,
   StableHlo.nullary main_cst_7 (constant S_ .f32 0x00000000#32),
   StableHlo.binary main_v29 main_cst_7 main_v30 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
   StableHlo.nullary main_cst_8 (constant S_ .f32 0x49800000#32),
   StableHlo.binary main_v30 main_cst_8 main_v31 (Host.divf : (⟨S_, .f32⟩ : BufTy).Contents (Elt F) → (⟨S_, .f32⟩ : BufTy).Contents (Elt F) → (⟨S_, .f32⟩ : BufTy).Contents (Elt F))]

/-- What `opsA` writes, in order. -/
def opsAW : List (Ref sig .tc) := [main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v0, main_v1]

theorem opsA_writes : (opsA (F := F)).map HloOp.writes = opsAW.map fun w => {Proc.devRef (τ := τ) .tc w} := rfl

theorem opsA_sub : (opsA (F := F)).Forall fun op => op.bufs ⊆ StableHlo.tcRefs τ sig :=
  ⟨StableHlo.nullary_bufs_sub .., StableHlo.nullary_bufs_sub .., StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub .., StableHlo.reshape_bufs_sub ..⟩

theorem opsA_fresh : (opsA (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- What `opsB` writes, in order. -/
def opsBW : List (Ref sig .tc) := [main_v3, main_v4, main_v5]

theorem opsB_writes : (opsB (F := F)).map HloOp.writes = opsBW.map fun w => {Proc.devRef (τ := τ) .tc w} := rfl

theorem opsB_sub : (opsB (F := F)).Forall fun op => op.bufs ⊆ StableHlo.tcRefs τ sig :=
  ⟨StableHlo.reshape_bufs_sub .., StableHlo.reshape_bufs_sub .., StableHlo.reshape_bufs_sub ..⟩

theorem opsB_fresh : (opsB (F := F)).Forall fun op => op.fresh = ∅ :=
  ⟨rfl, rfl, rfl⟩

/-- What `opsC` writes, in order. -/
def opsCW : List (Ref sig .tc) := [main_cst_1, main_v7, main_v8, main_v9, main_v10, main_v11, main_v12, main_v13, main_cst_2, main_v14, main_v15, main_v16, main_v17, main_v18, main_v19, main_cst_3, main_v20, main_v21, main_v22, main_cst_4, main_v23, main_v24, main_cst_5, main_call1_v0, main_call1_v1, main_v25, main_cst_6, main_v26, main_v27, main_v28, main_v29, main_cst_7, main_v30, main_cst_8, main_v31]

theorem opsC_writes : (opsC (F := F)).map HloOp.writes = opsCW.map fun w => {Proc.devRef (τ := τ) .tc w} := rfl

theorem opsC_sub : (opsC (F := F)).Forall fun op => op.bufs ⊆ StableHlo.tcRefs τ sig :=
  ⟨StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.reshape_bufs_sub .., StableHlo.nullary_bufs_sub .., StableHlo.binary_bufs_sub .., StableHlo.nullary_bufs_sub .., StableHlo.binary_bufs_sub ..⟩

theorem opsC_fresh : (opsC (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

open Idealize.ShloMosaic.StableHlo (seqK seq_bind_seqK) in
set_option maxHeartbeats 2000000 in
set_option maxRecDepth 16384 in
theorem main_eq (d : Dev nD) : main (F := F) d
    = (seq opsA >>= fun _ => Prog.lift (.customCall (SparseCore.inner (Pipeline.entry 0)) ()) >>= fun _ => seq opsB >>= fun _ =>
        sc.run d 0 >>= fun _ => seq opsC) := by
  have h : main (F := F) d = seqK opsA (Prog.lift (.customCall (SparseCore.inner (Pipeline.entry 0)) ()) >>= fun _ =>
      seqK opsB (sc.run d 0 >>= fun _ => seq opsC)) := by
    rfl
  rw [h, ← seq_bind_seqK opsA]
  congr 1

end Cert.Proof.KI

end
-- ==== Proof.Dense.lean ====
/-
  The dense stage's TensorCore kernel: its body run once at whole staging buffers, with what the three result
  buffers hold stated through the printed payloads.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Pipeline.ValueKit
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S V T)
open Idealize.ShloMosaic.SparseCore.Cfg (HIx Pay)

variable {F : FTy → Type} [FloatOps F]

/-- The resource algebra: the SparseCore handshakes' rounds, the pipeline's rounds, and the transfers' counters. -/
abbrev UU : Type := URounds (GSem nD τ sig) ℕ × (UR sig nD τ × Counters)

local notation "𝕄" => MT nD τ sig (HIx 1) (Elt F) ℕ UU ℕ

/-- Memref `M`'s buffer on device `c`'s TensorCore: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Reads and writes of a whole buffer through a full rectangle -/

theorem readAt_full {κ : Kind} {sp : Space} {s : Shape} {e : EltTy} {Val : EltTy → Type} (v : View sig κ sp s e) (f : v.ty.Contents Val)
    (off : Fin s.rank → ℕ) (h : ∀ a, off a + s.size a ≤ s.size a) :
    v.readAt Val (Rect.unit off s.size h).toLoadRect f = v.read Val f := by
  funext x
  rw [View.readAt_apply]
  congr 1
  funext a
  apply Fin.ext
  have := h a
  show off a + 1 * (x a).val = (x a).val
  omega

theorem read_writes_full {κ : Kind} {sp : Space} {s : Shape} {e : EltTy} {Val : EltTy → Type} (v : View sig κ sp s e) (f : v.ty.Contents Val)
    (off : Fin s.rank → ℕ) (h : ∀ a, off a + s.size a ≤ s.size a) (w : s.Idx → Val e) :
    v.read Val (v.writes Val f [⟨Rect.unit off s.size h, w⟩]) = w := by
  funext x
  refine View.read_writes_cons_hit_of_coords v f (Rect.unit off s.size h) w [] x x fun a => ?_
  have := h a
  show (x a).val = off a + 1 * (x a).val
  omega

/-! ## What the body computes from its blocks -/

/-- Cell `j` of the table of bounds. -/
def ix11 (j : Fin 11) : S11.Idx := fun | ⟨0, _⟩ => j

/-- A block's confidences: one over the row's sum of exponentials. -/
abbrev confV (x : Vec F S2048x100 .f32) : Vec F S1x1x2048 .f32 := k0_pay1 (k0_pay5 x)
/-- A block's accuracies: one where the predicted column is the label. -/
abbrev accV (x : Vec F S2048x100 .f32) (l : Vec F S1x1x2048 .i32) : Vec F S1x1x2048 .f32 := k0_pay2 (k0_pay6 x l)
/-- A block's bins: how many of the nine inner bounds lie below the confidence. -/
abbrev binV (b : Vec F S11 .f32) (x : Vec F S2048x100 .f32) : Vec F S1x1x2048 .i32 :=
  k0_pay3 (k0_pay5 x) (k0_pay7 x (b (ix11 1)) (b (ix11 2)) (b (ix11 3)) (b (ix11 4))) (k0_pay8 (b (ix11 5)))
    (b (ix11 6)) (b (ix11 7)) (b (ix11 8)) (b (ix11 9))

theorem read_cell {κ : Kind} {sp : Space} (v : View sig κ sp S11 .f32) (f : v.ty.Contents (Elt F)) (j : Fin 11)
    (h : ∀ a, (![j.val] : Fin 1 → ℕ) a + S1.size a ≤ S11.size a) (h' : 0 < S1.numel) :
    v.readAt (Elt F) (Rect.unit (s := S11) ![j.val] S1.size h).toLoadRect f (Shape.Idx.first h') = v.read (Elt F) f (ix11 j) := by
  rw [View.readAt_apply]
  congr 1
  funext a
  apply Fin.ext
  obtain ⟨a, ha⟩ := a
  obtain rfl : a = 0 := Nat.lt_one_iff.mp ha
  rfl

theorem body_owns (c : Dev nD) (i : grid0.Coords) (M0 : Memref sig .tc .smem S11 .f32) (h0 : M0.IsWhole)
    (M1 : Memref sig .tc .vmem S2048x100 .f32) (h1 : M1.IsWhole) (M2 : Memref sig .tc .vmem S1x1x2048 .i32) (h2 : M2.IsWhole)
    (M3 : Memref sig .tc .vmem S1x1x2048 .f32) (h3 : M3.IsWhole) (M4 : Memref sig .tc .vmem S1x1x2048 .f32) (h4 : M4.IsWhole)
    (M5 : Memref sig .tc .vmem S1x1x2048 .i32) (h5 : M5.IsWhole)
    (b : Vec F S11 .f32) (x : Vec F S2048x100 .f32) (l : Vec F S1x1x2048 .i32) (X3 X4 : Vec F S1x1x2048 .f32) (X5 : Vec F S1x1x2048 .i32)
    (E : Set ℕ) (Q : PUnit → sProp 𝕄) :
    iprop(owns (c : Thread nD τ) M0 fullShare b ∗ owns (c : Thread nD τ) M1 fullShare x ∗ owns (c : Thread nD τ) M2 fullShare l
        ∗ owns (c : Thread nD τ) M3 fullShare X3 ∗ owns (c : Thread nD τ) M4 fullShare X4 ∗ owns (c : Thread nD τ) M5 fullShare X5
        ∗ (iprop(owns (c : Thread nD τ) M0 fullShare b ∗ owns (c : Thread nD τ) M1 fullShare x ∗ owns (c : Thread nD τ) M2 fullShare l
            ∗ owns (c : Thread nD τ) M3 fullShare (confV x) ∗ owns (c : Thread nD τ) M4 fullShare (accV x l)
            ∗ owns (c : Thread nD τ) M5 fullShare (binV b x)) -∗ Q ⟨⟩))
          ⊢ wp frame (wpE (defs₀ (F := F)) Variants.none c none) E (cc0__dense_body i M0 h0 M1 h1 M2 h2 M3 h3 M4 h4 M5 h5) Q := by
  rw [cc0__dense_body_eq_skeleton]; unfold cc0__dense_body_skel
  rw [k0_part1_eq_skeleton]; unfold k0_part1_skel
  unfold owns
  simp only [h0.set_eq_univ, h1.set_eq_univ, h2.set_eq_univ, h3.set_eq_univ, h4.set_eq_univ, h5.set_eq_univ]
  iintro ⟨⟨%f0, %e0, H0⟩, ⟨%f1, %e1, H1⟩, ⟨%f2, %e2, H2⟩, ⟨%f3, -, H3⟩, ⟨%f4, -, H4⟩, ⟨%f5, -, H5⟩, Hk⟩
  subst e0 e1 e2
  sl_exec
  sl_step
  unfold body_owns.sl.r body_owns.sl.r_1 body_owns.sl.r_2 body_owns.sl.r_3 body_owns.sl.r_4 body_owns.sl.r_5 body_owns.sl.r_6 body_owns.sl.r_7 body_owns.sl.r_8
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr; swap; · iexact H3
    ipureintro
    refine (read_writes_full M3.view f3 _ inb_S1x1x2048_S1x1x2048_0_0_0 _).trans ?_
    rw [readAt_full M1.view f1 _ inb_S2048x100_S2048x100_0_0]
  isplitl [H4]
  · iexists _; isplitr; swap; · iexact H4
    ipureintro
    refine (read_writes_full M4.view f4 _ inb_S1x1x2048_S1x1x2048_0_0_0 _).trans ?_
    rw [readAt_full M1.view f1 _ inb_S2048x100_S2048x100_0_0, readAt_full M2.view f2 _ inb_S1x1x2048_S1x1x2048_0_0_0]
  iexists _; isplitr; swap; · iexact H5
  ipureintro
  refine (read_writes_full M5.view f5 _ inb_S1x1x2048_S1x1x2048_0_0_0 _).trans ?_
  rw [readAt_full M1.view f1 _ inb_S2048x100_S2048x100_0_0]
  have hc := fun (j : Fin 11) h => read_cell (F := F) M0.view f0 j h (by decide)
  unfold binV
  rw [← hc 1 inb_S11_S1_1, ← hc 2 inb_S11_S1_2, ← hc 3 inb_S11_S1_3, ← hc 4 inb_S11_S1_4, ← hc 5 inb_S11_S1_5, ← hc 6 inb_S11_S1_6,
    ← hc 7 inb_S11_S1_7, ← hc 8 inb_S11_S1_8, ← hc 9 inb_S11_S1_9]
  rfl

/-! ## The proof data at an entry valuation -/

-- what the core owes and what it has waited for when the region is entered
variable (O : Dev nD → CellTallies nD τ sig (HIx 1)) (Wr : Dev nD → Set (SemLoc sig × HIx 1))
variable (V : (c : Dev nD) → (b : Ref sig .tc) → Buf (Elt F) ((c : Thread nD τ).loc b))

/-- Each input window's block at a point: the array at the entry valuation read through the block's view. -/
abbrev blkB (c : Dev nD) (t : Fin cfg0.N) : Vec F S11 .f32 := ((cfg0.win 0).blk t).view.read (Elt F) (V c main_v0)
abbrev blkX (c : Dev nD) (t : Fin cfg0.N) : Vec F S2048x100 .f32 := ((cfg0.win 1).blk t).view.read (Elt F) (V c main_arg0)
abbrev blkL (c : Dev nD) (t : Fin cfg0.N) : Vec F S1x1x2048 .i32 := ((cfg0.win 2).blk t).view.read (Elt F) (V c main_v1)

abbrev Φc (c : Dev nD) : sProp 𝕄 := Pipeline.scopedRest (Ix := HIx 1) (Name := ℕ) (U := UU) (Lvl := ℕ) (Val := Elt F) spec0 c

/-- The proof data: the arrays at `V`; after the body the inputs' buffers as fetched and the results' at the body's values. -/
def dat (c : Dev nD) : Pipeline.Dat τ (Elt F) (HIx 1) ℕ UU ℕ cfg0 c where
  A w := V c (Pipeline.arrRef spec0 w)
  after w t := match w with
    | ⟨0, _⟩ => blkB V c t
    | ⟨1, _⟩ => blkX V c t
    | ⟨2, _⟩ => blkL V c t
    | ⟨3, _⟩ => confV (blkX V c t)
    | ⟨4, _⟩ => accV (blkX V c t) (blkL V c t)
    | ⟨5, _⟩ => binV (blkB V c t) (blkX V c t)
  Φ _ := Φc c
  q _ := fullShare
  owed _ := O c
  recorded _ := Wr c

theorem before_0 (c : Dev nD) (t : Fin cfg0.N) (d) : (dat O Wr V c).before 0 t d = blkB V c t :=
  (dat O Wr V c).before_in_eq_fetched 0 rfl (fun _ => rfl) (fun _ _ _ => rfl) (fun _ => rfl) t d
theorem before_1 (c : Dev nD) (t : Fin cfg0.N) (d) : (dat O Wr V c).before 1 t d = blkX V c t :=
  (dat O Wr V c).before_in_eq_fetched 1 rfl (fun _ => rfl) (fun _ _ _ => rfl) (fun _ => rfl) t d
theorem before_2 (c : Dev nD) (t : Fin cfg0.N) (d) : (dat O Wr V c).before 2 t d = blkL V c t :=
  (dat O Wr V c).before_in_eq_fetched 2 rfl (fun _ => rfl) (fun _ _ _ => rfl) (fun _ => rfl) t d

theorem body_obligation (c : Dev nD) : Pipeline.BodyObligation (dat O Wr V c) (defs₀ (F := F)) Variants.none (none : HIx 1) Set.univ := fun t => by
  rw [bigSep_W0, bigSep_W0]
  rw [show (dat O Wr V c).Φ t.castSucc = Φc c from rfl, show (dat O Wr V c).Φ t.succ = Φc c from rfl,
    show (dat O Wr V c).owesAt none t.succ = (dat O Wr V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before_0, before_1, before_2]
  iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (blkB V c t) (blkX V c t) (blkL V c t) ((dat O Wr V c).before 3 t d3) ((dat O Wr V c).before 4 t d4) ((dat O Wr V c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  dsimp only [dat]
  isplitl [H0]; · iexact H0
  isplitl [H1]; · iexact H1
  isplitl [H2]; · iexact H2
  isplitl [H3]; · iexact H3
  isplitl [H4]; · iexact H4
  iexact H5

end Cert.Proof.KI

end
-- ==== Proof.Region.lean ====
/-
  The dense stage as a region of the TensorCore's program: what its three result arrays hold, and the region rule
  from any valuation of the unscoped buffers to the one with the results put in.
-/
module

public import proofs.«01_k».proof.Proof.Dense

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S V T)
open Idealize.ShloMosaic.SparseCore.Cfg (HIx Pay)
open Idealize.ShloMosaic.StableHlo (held)

variable {F : FTy → Type} [FloatOps F]

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The pipeline reads no prefetched table. -/
abbrev adm : (p : Fin 1) → (pcfgs (F := F) p).Adm := fun p => (cfgs p).toPCfg_adm

/-! ## What the result arrays hold -/

/-- An index of the staged arrays by its coordinates. -/
def ix3 (t : Fin 512) (r : Fin 2048) : S512x1x2048.Idx := fun | ⟨0, _⟩ => t | ⟨1, _⟩ => (0 : Fin 1) | ⟨2, _⟩ => r
/-- An index of one block. -/
def ixb (r : Fin 2048) : S1x1x2048.Idx := fun | ⟨0, _⟩ => (0 : Fin 1) | ⟨1, _⟩ => (0 : Fin 1) | ⟨2, _⟩ => r

/-- An index of the logits. -/
def ixr (n : Fin 1048576) (k : Fin 100) : S1048576x100.Idx := fun | ⟨0, _⟩ => n | ⟨1, _⟩ => k

/-- Row `r` of block `t`. -/
def rowN (t : Fin 512) (r : Fin 2048) : Fin 1048576 := ⟨2048 * t.val + r.val, by have := r.isLt; have := t.isLt; omega⟩

/-- The logits' block `t`: rows `2048 t` on. -/
def rowsOf (x : Vec F S1048576x100 .f32) (t : Fin 512) : Vec F S2048x100 .f32 := fun y =>
  x (ixr (rowN t (y 0)) (y 1))
/-- The labels' block `t`. -/
def labsOf (l : Vec F S512x1x2048 .i32) (t : Fin 512) : Vec F S1x1x2048 .i32 := fun y => l (ix3 t (y 2))

/-- The staged confidences, accuracies and bins as functions of the bounds, the logits and the staged labels. -/
def confA (x : Vec F S1048576x100 .f32) : Vec F S512x1x2048 .f32 := fun i => confV (rowsOf x (i 0)) (ixb (i 2))
def accA (x : Vec F S1048576x100 .f32) (l : Vec F S512x1x2048 .i32) : Vec F S512x1x2048 .f32 := fun i => accV (rowsOf x (i 0)) (labsOf l (i 0)) (ixb (i 2))
def binA (b : Vec F S11 .f32) (x : Vec F S1048576x100 .f32) : Vec F S512x1x2048 .i32 := fun i => binV b (rowsOf x (i 0)) (ixb (i 2))

theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![t.val, 0, 0] := (by decide +kernel : ∀ t : Fin grid0.N, win0_2.index t = ![t.val, 0, 0])
theorem index_3 : ∀ t : Fin cfg0.N, (cfg0.win 3).index t = ![t.val, 0, 0] := (by decide +kernel : ∀ t : Fin grid0.N, win0_3.index t = ![t.val, 0, 0])
theorem index_4 : ∀ t : Fin cfg0.N, (cfg0.win 4).index t = ![t.val, 0, 0] := (by decide +kernel : ∀ t : Fin grid0.N, win0_4.index t = ![t.val, 0, 0])
theorem index_5 : ∀ t : Fin cfg0.N, (cfg0.win 5).index t = ![t.val, 0, 0] := (by decide +kernel : ∀ t : Fin grid0.N, win0_5.index t = ![t.val, 0, 0])
theorem index_0 : ∀ t : Fin cfg0.N, (cfg0.win 0).index t = ![0] := (by decide +kernel : ∀ t : Fin grid0.N, win0_0.index t = ![0])

section
variable (O : Dev nD → CellTallies nD τ sig (HIx 1)) (Wr : Dev nD → Set (SemLoc sig × HIx 1))
variable (V : (c : Dev nD) → (b : Ref sig .tc) → Buf (Elt F) ((c : Thread nD τ).loc b))

theorem blkX_eq (c : Dev nD) (t : Fin cfg0.N) (t' : Fin 512) (h : t'.val = t.val) : blkX V c t = rowsOf (V c main_arg0) t' := by
  funext y
  blk_simp [blkX]
  unfold rowsOf
  congr 1
  funext a
  apply Fin.ext
  have h1 := index_1 t
  match a with
  | ⟨0, _⟩ => show _ = 2048 * t'.val + (y 0).val; rw [h]; blk_simp [h1]; rw [Nat.mul_comm]; rfl
  | ⟨1, _⟩ => show _ = (y 1).val; blk_simp [h1]; rfl

theorem blkL_eq (c : Dev nD) (t : Fin cfg0.N) (t' : Fin 512) (h : t'.val = t.val) : blkL V c t = labsOf (V c main_v1) t' := by
  funext y
  blk_simp [blkL]
  unfold labsOf
  congr 1
  funext a
  apply Fin.ext
  have h1 := index_2 t
  match a with
  | ⟨0, _⟩ => show _ = t'.val; rw [h]; blk_simp [h1]
  | ⟨1, _⟩ => show _ = 0; blk_simp [h1]
  | ⟨2, _⟩ => show _ = (y 2).val; blk_simp [h1]; rfl

theorem blkB_eq (c : Dev nD) (t : Fin cfg0.N) : blkB V c t = V c main_v0 := by
  funext y
  blk_simp [blkB]
  congr 1
  funext a
  apply Fin.ext
  have h1 := index_0 t
  match a with
  | ⟨0, _⟩ => show _ = (y 0).val; blk_simp [h1]; rfl

theorem final_conf (c : Dev nD) : (dat O Wr V c).arrAt 3 cfg0.N = confA (V c main_arg0) := by
  refine (dat O Wr V c).arrAt_eq_of_covers 3 _ (by decide +kernel) fun t hf y => ?_
  blk_simp
  dsimp only [dat]
  have h1 := index_3 t
  unfold confA
  have ht : ((((View.whole main_v2_0).slice (win0_3.rect t)).emb y 0 : Fin 512)).val = t.val := by blk_simp [h1]
  rw [blkX_eq V c t _ ht]
  congr 1
  funext a
  apply Fin.ext
  match a with
  | ⟨0, _⟩ => exact Nat.lt_one_iff.mp (y 0).isLt
  | ⟨1, _⟩ => exact Nat.lt_one_iff.mp (y 1).isLt
  | ⟨2, _⟩ => show _ = ((((View.whole main_v2_0).slice (win0_3.rect t)).emb y 2 : Fin 2048)).val; blk_simp [h1]; rfl

theorem final_acc (c : Dev nD) : (dat O Wr V c).arrAt 4 cfg0.N = accA (V c main_arg0) (V c main_v1) := by
  refine (dat O Wr V c).arrAt_eq_of_covers 4 _ (by decide +kernel) fun t hf y => ?_
  blk_simp
  dsimp only [dat]
  have h1 := index_4 t
  unfold accA
  have ht : ((((View.whole main_v2_1).slice (win0_4.rect t)).emb y 0 : Fin 512)).val = t.val := by blk_simp [h1]
  rw [blkX_eq V c t _ ht, blkL_eq V c t _ ht]
  congr 1
  funext a
  apply Fin.ext
  match a with
  | ⟨0, _⟩ => exact Nat.lt_one_iff.mp (y 0).isLt
  | ⟨1, _⟩ => exact Nat.lt_one_iff.mp (y 1).isLt
  | ⟨2, _⟩ => show _ = ((((View.whole main_v2_1).slice (win0_4.rect t)).emb y 2 : Fin 2048)).val; blk_simp [h1]; rfl

theorem final_bin (c : Dev nD) : (dat O Wr V c).arrAt 5 cfg0.N = binA (V c main_v0) (V c main_arg0) := by
  refine (dat O Wr V c).arrAt_eq_of_covers 5 _ (by decide +kernel) fun t hf y => ?_
  blk_simp
  dsimp only [dat]
  have h1 := index_5 t
  unfold binA
  have ht : ((((View.whole main_v2_2).slice (win0_5.rect t)).emb y 0 : Fin 512)).val = t.val := by blk_simp [h1]
  rw [blkB_eq V c t, blkX_eq V c t _ ht]
  congr 1
  funext a
  apply Fin.ext
  match a with
  | ⟨0, _⟩ => exact Nat.lt_one_iff.mp (y 0).isLt
  | ⟨1, _⟩ => exact Nat.lt_one_iff.mp (y 1).isLt
  | ⟨2, _⟩ => show _ = ((((View.whole main_v2_2).slice (win0_5.rect t)).emb y 2 : Fin 2048)).val; blk_simp [h1]; rfl

end

end Cert.Proof.KI

end
-- ==== Proof.Tile.lean ====
/-
  The histogram stage's task on one vector subcore: the three accumulators zeroed, two windows of the dense stage's
  results fetched and scattered into them sixteen lanes at a time, each accumulator's sixteen rows summed and the three
  sums copied to the subcore's row of the result. What the row holds is stated by recursion on the trips.
-/
module

public import proofs.«01_k».proof.Proof.Region

@[expose] public section

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a task computes -/

/-- Word `n` of a flat array of the dense stage's results. -/
def ixw (n : ℕ) : S1048576.Idx := fun | ⟨0, _⟩ => ⟨n % 1048576, Nat.mod_lt _ (by decide)⟩

/-- The window of `16384` words from word `n`. -/
def win {e : EltTy} (B : Vec F S1048576 e) (n : ℕ) : Vec F S16384 e := fun x => B (ixw (n + (x 0).val))

/-- The sixteen words from word `n`. -/
def lanes {e : EltTy} (B : Vec F S1048576 e) (n : ℕ) : Vec F S16 e := fun y => B (ixw (n + (y 0).val))

/-- One scatter: lane `l` adds its value into word `16 l + bin`. -/
def scat (f : Vec F S256 .f32) (b : IVec S16 32) (v : Vec F S16 .f32) : Vec F S256 .f32 :=
  if h : k1_chk1 (addi k1_pay2 b) then storeIdx f ![addi k1_pay2 b] v (fun _ => 1#1) true (k1_idx1_inb _ h) else f

/-- An accumulator after `k` trips from word `n`, the values of a trip read by `v`. -/
def accum (B : Vec F S1048576 .i32) (v : ℕ → Vec F S16 .f32) (n : ℕ) : ℕ → Vec F S256 .f32
  | 0 => fun _ => Scalar.ofBits .f32 0x00000000#32
  | k + 1 => scat (accum B v n k) (lanes B (n + 16 * k)) (v (n + 16 * k))

/-- Row `r` of an accumulator. -/
def arow (f : Vec F S256 .f32) (r : ℕ) : Vec F S16 .f32 := fun y => f (fun | ⟨0, _⟩ => ⟨(16 * r + (y 0).val) % 256, Nat.mod_lt _ (by decide)⟩)

/-- The sum of the first `k` rows of an accumulator, from zero. -/
def rsum (f : Vec F S256 .f32) : ℕ → Vec F S16 .f32
  | 0 => k1_pay1
  | k + 1 => addf (rsum f k) (arow f k)

/-- What task `t` leaves in row `a` of its result. -/
def tileRow (B : Vec F S1048576 .i32) (C A : Vec F S1048576 .f32) (t : ℕ) : Fin 3 → Vec F S16 .f32
  | 0 => rsum (accum B (fun _ => k1_pay3) (32768 * t) 2048) 16
  | 1 => rsum (accum B (lanes C) (32768 * t) 2048) 16
  | 2 => rsum (accum B (lanes A) (32768 * t) 2048) 16

/-- The histogram stage's whole result. -/
def histA (B : Vec F S1048576 .i32) (C A : Vec F S1048576 .f32) : Vec F S32x3x16 .f32 :=
  fun y => tileRow B C A (y 0).val (y 1) (fun | ⟨0, _⟩ => y 2)

section Tile

variable (d : Dev nD) (L : grid1.Coords)

abbrev cV (L : grid1.Coords) : Fin τ.nSC := (L 0).castLE hcore1
abbrev jV (L : grid1.Coords) : Fin τ.nSub := (L 1).castLE hsub1
/-- The task's number. -/
abbrev tN (L : grid1.Coords) : ℕ := 2 * (L 1).val + (L 0).val

theorem tN_lt : tN L < 32 := by
  have h0 : (L 0).val < 2 := (L 0).isLt
  have h1 : (L 1).val < 16 := (L 1).isLt
  show 2 * (L 1).val + (L 0).val < 32
  omega

local notation "bV" => (Memref.whole Cert.KernelIdeal.main_v3_scv : Memref Cert.KernelIdeal.sig Kind.scVector Space.hbm Cert.KernelIdeal.S1048576 EltTy.i32)
local notation "pV" => (Memref.whole Cert.KernelIdeal.main_v4_scv : Memref Cert.KernelIdeal.sig Kind.scVector Space.hbm Cert.KernelIdeal.S1048576 EltTy.f32)
local notation "aV" => (Memref.whole Cert.KernelIdeal.main_v5_scv : Memref Cert.KernelIdeal.sig Kind.scVector Space.hbm Cert.KernelIdeal.S1048576 EltTy.f32)
local notation "oV" => (Memref.whole Cert.KernelIdeal.main_v6_scv : Memref Cert.KernelIdeal.sig Kind.scVector Space.hbm Cert.KernelIdeal.S32x3x16 EltTy.f32)
local notation "s0" => (Memref.whole Cert.KernelIdeal.cc1_scratch0 : Memref Cert.KernelIdeal.sig Kind.scVector Space.vmem Cert.KernelIdeal.S16384 EltTy.i32)
local notation "s1" => (Memref.whole Cert.KernelIdeal.cc1_scratch1 : Memref Cert.KernelIdeal.sig Kind.scVector Space.vmem Cert.KernelIdeal.S16384 EltTy.f32)
local notation "s2" => (Memref.whole Cert.KernelIdeal.cc1_scratch2 : Memref Cert.KernelIdeal.sig Kind.scVector Space.vmem Cert.KernelIdeal.S16384 EltTy.f32)
local notation "s3" => (Memref.whole Cert.KernelIdeal.cc1_scratch3 : Memref Cert.KernelIdeal.sig Kind.scVector Space.vmem Cert.KernelIdeal.S256 EltTy.f32)
local notation "s4" => (Memref.whole Cert.KernelIdeal.cc1_scratch4 : Memref Cert.KernelIdeal.sig Kind.scVector Space.vmem Cert.KernelIdeal.S256 EltTy.f32)
local notation "s5" => (Memref.whole Cert.KernelIdeal.cc1_scratch5 : Memref Cert.KernelIdeal.sig Kind.scVector Space.vmem Cert.KernelIdeal.S256 EltTy.f32)
local notation "s6" => (Memref.whole Cert.KernelIdeal.cc1_scratch6 : Memref Cert.KernelIdeal.sig Kind.scVector Space.vmem Cert.KernelIdeal.S3x16 EltTy.f32)
local notation "w" => V d (cV L) (jV L)

/-- The six scratch buffers a trip touches, at their contents. -/
def trips (b : Vec F S16384 .i32) (p a : Vec F S16384 .f32) (f g h : Vec F S256 .f32) : sProp 𝕄 :=
  iprop(((s0).view.loc w ↦{fullShare} b) ∗ ((s1).view.loc w ↦{fullShare} p) ∗ ((s2).view.loc w ↦{fullShare} a)
    ∗ ((s3).view.loc w ↦{fullShare} f) ∗ ((s4).view.loc w ↦{fullShare} g) ∗ ((s5).view.loc w ↦{fullShare} h))

/-- The loops' invariant: the window in place and the accumulators at `1024 r + k` trips. -/
def inv (B : Vec F S1048576 .i32) (C A : Vec F S1048576 .f32) (r : ℕ) (k : ℕ) (_ : BitVec 32) : sProp 𝕄 :=
  trips d L (win B (32768 * tN L + 16384 * r)) (win C (32768 * tN L + 16384 * r)) (win A (32768 * tN L + 16384 * r))
    (accum B (fun _ => k1_pay3) (32768 * tN L) (1024 * r + k)) (accum B (lanes C) (32768 * tN L) (1024 * r + k))
    (accum B (lanes A) (32768 * tN L) (1024 * r + k))

theorem pay2_val : ∀ y : S16.Idx, (k1_pay2 y).toNat = 16 * (y 0).val := by
  have h : ∀ j : Fin 16, (k1_pay2 (fun | ⟨0, _⟩ => j)).toNat = 16 * j.val := by decide +kernel
  intro y
  have e : y = (fun | ⟨0, _⟩ => y 0) := by funext a; obtain ⟨a, ha⟩ := a; obtain rfl : a = 0 := Nat.lt_one_iff.mp ha; rfl
  rw [e]; exact h (y 0)

/-- The addresses of a trip are inside an accumulator. -/
theorem chk_of_lt (b : IVec S16 32) (hb : ∀ y, (b y).toNat < 16) : k1_chk1 (addi k1_pay2 b) := by
  have h : ∀ a x, ((![addi k1_pay2 b] : Fin 1 → IVec S16 32) a x).toNat < S256.size a := by
    intro a x
    obtain ⟨a, ha⟩ := a
    obtain rfl : a = 0 := Nat.lt_one_iff.mp ha
    show (k1_pay2 x + b x).toNat < 256
    have h1 := pay2_val x
    have h2 := hb x
    have h3 : (x 0).val < 16 := (x 0).isLt
    rw [BitVec.toNat_add]
    omega
  exact ⟨h, h, h⟩

theorem ixw_ext {a b : ℕ} (h : a = b) : ixw a = ixw b := by rw [h]

/-- Sixteen words of a window are sixteen words of the array. -/
theorem lanes_win {e : EltTy} (b : Ref sig .scVector) (hb : b.ty = ⟨S16384, e⟩) (B : Vec F S1048576 e) (n k : ℕ) (off : Fin 1 → ℕ)
    (hoff : off = ![16 * k]) (h : ∀ a, off a + S16.size a ≤ S16384.size a) (v : View sig .scVector .vmem S16384 e)
    (f : v.ty.Contents (Elt F)) (hf : v.read (Elt F) f = win B n) :
    v.readAt (Elt F) (Rect.unit (s := S16384) off S16.size h).toLoadRect f = lanes B (n + 16 * k) := by
  subst hoff
  funext y
  rw [View.readAt_apply, hf]
  refine congrArg B (ixw_ext ?_)
  show n + (16 * k + 1 * (y 0).val) = n + 16 * k + (y 0).val
  omega

theorem scat_of_eq (f : Vec F S256 .f32) (b idx : IVec S16 32) (v : Vec F S16 .f32) (e : idx = addi k1_pay2 b)
    (h' : ∀ a x, ((![idx] : Fin 1 → IVec S16 32) a x).toNat < S256.size a) :
    storeIdx f ![idx] v (fun _ => 1#1) true h' = scat f b v := by
  subst e
  unfold scat; rw [dif_pos (show k1_chk1 (addi k1_pay2 b) from ⟨h', h', h'⟩)]

theorem accum_succ (B : Vec F S1048576 .i32) (v : ℕ → Vec F S16 .f32) (n r k : ℕ) :
    accum B v n (1024 * r + (k + 1)) = scat (accum B v n (1024 * r + k)) (lanes B (n + 16384 * r + 16 * k)) (v (n + 16384 * r + 16 * k)) := by
  rw [show n + 16384 * r + 16 * k = n + 16 * (1024 * r + k) by omega]
  rfl

set_option maxHeartbeats 4000000 in
/-- A trip of the first window's loop. -/
theorem t1_step (B : Vec F S1048576 .i32) (C A : Vec F S1048576 .f32) (hB : ∀ x, (B x).toNat < 16) (v55 c33 acc : BitVec 32)
    (k : Fin k1_t1_loop.trips) :
    inv d L B C A 0 k.val acc
      ⊢ wp frame (wpE (defs₀ (F := F)) 𝒱₀ w none) Set.univ
          (k1_t1_body L bV (Memref.isWhole_whole _) pV (Memref.isWhole_whole _) aV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _)
            cc1_scoped0 cc1_scoped1 cc1_scoped2 cc1_scoped3 cc1_scoped4 cc1_scoped5 cc1_scoped6 (k1_pay1 (F := F)) k1_pay2 (k1_pay3 (F := F)) v55 c33 k acc)
          fun acc' => inv d L B C A 0 (k.val + 1) acc' := by
  unfold inv trips k1_t1_body
  iintro ⟨H0, H1, H2, H3, H4, H5⟩
  sl_exec
  have e0 : t1_step.sl.v173 L B k = addi k1_pay2 (lanes B (32768 * tN L + 16384 * 0 + 16 * k.val)) := by
    unfold t1_step.sl.v173
    rw [lanes_win cc1_scratch0 rfl B (32768 * tN L + 16384 * 0) k.val _ (k1_off2_eq k) _ _ _ rfl]
  rw [wp_assume_of 𝒱₀ w none Set.univ (e0 ▸ chk_of_lt _ fun _ => hB _)]
  rw [lanes_win cc1_scratch1 rfl C (32768 * tN L + 16384 * 0) k.val _ (k1_off2_eq k) _ _ _ rfl,
    lanes_win cc1_scratch2 rfl A (32768 * tN L + 16384 * 0) k.val _ (k1_off2_eq k) _ _ _ rfl,
    accum_succ, accum_succ, accum_succ]
  ihave H3 := (Entails.of_eq (show ((s3).view.loc w ↦{fullShare} accum B (fun _ => k1_pay3) (32768 * tN L) (1024 * 0 + k.val) : sProp 𝕄)
    = ((s3).access (.whole _)).loc w ↦[((s3).access (.whole _)).set]{fullShare} _ by rw [Memref.set_access_whole])) $$ H3
  iapply (SparseCore.wp_vectorStoreIdx 𝒱₀ w none Set.univ (base := s3)) $$ H3; iintro H3
  ihave H4 := (Entails.of_eq (show ((s4).view.loc w ↦{fullShare} accum B (lanes C) (32768 * tN L) (1024 * 0 + k.val) : sProp 𝕄)
    = ((s4).access (.whole _)).loc w ↦[((s4).access (.whole _)).set]{fullShare} _ by rw [Memref.set_access_whole])) $$ H4
  iapply (SparseCore.wp_vectorStoreIdx 𝒱₀ w none Set.univ (base := s4)) $$ H4; iintro H4
  ihave H5 := (Entails.of_eq (show ((s5).view.loc w ↦{fullShare} accum B (lanes A) (32768 * tN L) (1024 * 0 + k.val) : sProp 𝕄)
    = ((s5).access (.whole _)).loc w ↦[((s5).access (.whole _)).set]{fullShare} _ by rw [Memref.set_access_whole])) $$ H5
  iapply (SparseCore.wp_vectorStoreIdx 𝒱₀ w none Set.univ (base := s5)) $$ H5; iintro H5
  rw [wp_pure]; imodintro
  simp only [Memref.set_access_whole, Memref.write_access_whole_univ, Memref.read_access_whole, scat_of_eq _ _ _ _ e0]
  isplitl [H0]; · iexact H0
  isplitl [H1]; · iexact H1
  isplitl [H2]; · iexact H2
  isplitl [H3]
  · iexact H3
  isplitl [H4]
  · iexact H4
  iexact H5

set_option maxHeartbeats 4000000 in
/-- A trip of the second window's loop. -/
theorem t2_step (B : Vec F S1048576 .i32) (C A : Vec F S1048576 .f32) (hB : ∀ x, (B x).toNat < 16) (v55 c33 acc : BitVec 32)
    (k : Fin k1_t2_loop.trips) :
    inv d L B C A 1 k.val acc
      ⊢ wp frame (wpE (defs₀ (F := F)) 𝒱₀ w none) Set.univ
          (k1_t2_body L bV (Memref.isWhole_whole _) pV (Memref.isWhole_whole _) aV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _)
            cc1_scoped0 cc1_scoped1 cc1_scoped2 cc1_scoped3 cc1_scoped4 cc1_scoped5 cc1_scoped6 (k1_pay1 (F := F)) k1_pay2 (k1_pay3 (F := F)) v55 c33 k acc)
          fun acc' => inv d L B C A 1 (k.val + 1) acc' := by
  unfold inv trips k1_t2_body
  iintro ⟨H0, H1, H2, H3, H4, H5⟩
  sl_exec
  have e0 : t2_step.sl.v173 L B k = addi k1_pay2 (lanes B (32768 * tN L + 16384 * 1 + 16 * k.val)) := by
    unfold t2_step.sl.v173
    rw [lanes_win cc1_scratch0 rfl B (32768 * tN L + 16384 * 1) k.val _ (k1_off3_eq k) _ _ _ rfl]
  rw [wp_assume_of 𝒱₀ w none Set.univ (e0 ▸ chk_of_lt _ fun _ => hB _)]
  rw [lanes_win cc1_scratch1 rfl C (32768 * tN L + 16384 * 1) k.val _ (k1_off3_eq k) _ _ _ rfl,
    lanes_win cc1_scratch2 rfl A (32768 * tN L + 16384 * 1) k.val _ (k1_off3_eq k) _ _ _ rfl,
    accum_succ, accum_succ, accum_succ]
  ihave H3 := (Entails.of_eq (show ((s3).view.loc w ↦{fullShare} accum B (fun _ => k1_pay3) (32768 * tN L) (1024 * 1 + k.val) : sProp 𝕄)
    = ((s3).access (.whole _)).loc w ↦[((s3).access (.whole _)).set]{fullShare} _ by rw [Memref.set_access_whole])) $$ H3
  iapply (SparseCore.wp_vectorStoreIdx 𝒱₀ w none Set.univ (base := s3)) $$ H3; iintro H3
  ihave H4 := (Entails.of_eq (show ((s4).view.loc w ↦{fullShare} accum B (lanes C) (32768 * tN L) (1024 * 1 + k.val) : sProp 𝕄)
    = ((s4).access (.whole _)).loc w ↦[((s4).access (.whole _)).set]{fullShare} _ by rw [Memref.set_access_whole])) $$ H4
  iapply (SparseCore.wp_vectorStoreIdx 𝒱₀ w none Set.univ (base := s4)) $$ H4; iintro H4
  ihave H5 := (Entails.of_eq (show ((s5).view.loc w ↦{fullShare} accum B (lanes A) (32768 * tN L) (1024 * 1 + k.val) : sProp 𝕄)
    = ((s5).access (.whole _)).loc w ↦[((s5).access (.whole _)).set]{fullShare} _ by rw [Memref.set_access_whole])) $$ H5
  iapply (SparseCore.wp_vectorStoreIdx 𝒱₀ w none Set.univ (base := s5)) $$ H5; iintro H5
  rw [wp_pure]; imodintro
  simp only [Memref.set_access_whole, Memref.write_access_whole_univ, Memref.read_access_whole, scat_of_eq _ _ _ _ e0]
  isplitl [H0]; · iexact H0
  isplitl [H1]; · iexact H1
  isplitl [H2]; · iexact H2
  isplitl [H3]
  · iexact H3
  isplitl [H4]
  · iexact H4
  iexact H5

end Tile

end Cert.Proof.KI

end
-- ==== Proof.Body.lean ====
/-
  The histogram stage's task on one vector subcore, run from its own scratch, shares of the dense stage's results and
  its row of the result.
-/
module

public import proofs.«01_k».proof.Proof.Tile
public import Idealize.ShloMosaic.Lib.WritesUnit

@[expose] public section

noncomputable section

namespace Cert.Proof.KI

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "bV" => (Memref.whole Cert.KernelIdeal.main_v3_scv : Memref Cert.KernelIdeal.sig Kind.scVector Space.hbm Cert.KernelIdeal.S1048576 EltTy.i32)
local notation "pV" => (Memref.whole Cert.KernelIdeal.main_v4_scv : Memref Cert.KernelIdeal.sig Kind.scVector Space.hbm Cert.KernelIdeal.S1048576 EltTy.f32)
local notation "aV" => (Memref.whole Cert.KernelIdeal.main_v5_scv : Memref Cert.KernelIdeal.sig Kind.scVector Space.hbm Cert.KernelIdeal.S1048576 EltTy.f32)
local notation "oV" => (Memref.whole Cert.KernelIdeal.main_v6_scv : Memref Cert.KernelIdeal.sig Kind.scVector Space.hbm Cert.KernelIdeal.S32x3x16 EltTy.f32)
local notation "s0" => (Memref.whole Cert.KernelIdeal.cc1_scratch0 : Memref Cert.KernelIdeal.sig Kind.scVector Space.vmem Cert.KernelIdeal.S16384 EltTy.i32)
local notation "s1" => (Memref.whole Cert.KernelIdeal.cc1_scratch1 : Memref Cert.KernelIdeal.sig Kind.scVector Space.vmem Cert.KernelIdeal.S16384 EltTy.f32)
local notation "s2" => (Memref.whole Cert.KernelIdeal.cc1_scratch2 : Memref Cert.KernelIdeal.sig Kind.scVector Space.vmem Cert.KernelIdeal.S16384 EltTy.f32)
local notation "s3" => (Memref.whole Cert.KernelIdeal.cc1_scratch3 : Memref Cert.KernelIdeal.sig Kind.scVector Space.vmem Cert.KernelIdeal.S256 EltTy.f32)
local notation "s4" => (Memref.whole Cert.KernelIdeal.cc1_scratch4 : Memref Cert.KernelIdeal.sig Kind.scVector Space.vmem Cert.KernelIdeal.S256 EltTy.f32)
local notation "s5" => (Memref.whole Cert.KernelIdeal.cc1_scratch5 : Memref Cert.KernelIdeal.sig Kind.scVector Space.vmem Cert.KernelIdeal.S256 EltTy.f32)
local notation "s6" => (Memref.whole Cert.KernelIdeal.cc1_scratch6 : Memref Cert.KernelIdeal.sig Kind.scVector Space.vmem Cert.KernelIdeal.S3x16 EltTy.f32)

/-! ## The arrays a task touches -/

abbrev bLoc (d : Dev nD) : Loc nD τ sig := (SparseCore.T d).loc main_v3
abbrev pLoc (d : Dev nD) : Loc nD τ sig := (SparseCore.T d).loc main_v4
abbrev aLoc (d : Dev nD) : Loc nD τ sig := (SparseCore.T d).loc main_v5
abbrev oLoc (d : Dev nD) : Loc nD τ sig := (SparseCore.T d).loc main_v6

theorem odiv : 32 ∣ S32x3x16.size 0 := ⟨1, rfl⟩
abbrev orow (t : Fin 32) : Rect S32x3x16 := Rect.part (s := S32x3x16) (a₀ := 0) odiv t
/-- Row `t` of the histogram stage's result. -/
abbrev oRowSet (t : Fin 32) : Finset S32x3x16.Idx := ((oV).view.slice (orow t)).set

section Tile

variable (d : Dev nD) (L : grid1.Coords)

local notation "w" => V d (cV L) (jV L)

abbrev tF (L : grid1.Coords) : Fin 32 := ⟨tN L, tN_lt L⟩

abbrev orowK (L : grid1.Coords) : Rect S32x3x16 := Rect.unit (s := S32x3x16) (k1_off4 L) S1x3x16.size (k1_off4_inb L)
/-- The task's row as the task addresses it. -/
abbrev oRowK (L : grid1.Coords) : Memref sig .scVector .hbm S3x16 .f32 := ((oV).slice (orowK L) (fun _ => rfl)).squeeze S3x16 squeezes_S1x3x16_S3x16

theorem orowK_eq : orowK L = orow (tF L) := by
  unfold orowK orow Rect.part Rect.block
  congr 1 <;> funext a
  · rw [k1_off4_eq]
    match a with
    | 0 => simp [Shape.partIx, Shape.partSize, tF, tN]
    | 1 => simp [Shape.partIx, Shape.partSize]
    | 2 => simp [Shape.partIx, Shape.partSize]
  · match a with
    | 0 => simp [Shape.partSize]
    | 1 => simp [Shape.partSize]
    | 2 => simp [Shape.partSize]

theorem set_oRowK : (oRowK L).view.set = oRowSet (tF L) := by
  show (((oV).view.slice (orowK L)).reshape S3x16 squeezes_S1x3x16_S3x16.numel_eq).set = ((oV).view.slice (orow (tF L))).set
  rw [View.set_reshape]
  exact orowK_eq L ▸ rfl

theorem pts_oRowK (f : Buf (Elt F) (oLoc d)) :
    ((oRowK L).view.loc w ↦[(oRowK L).view.set]{fullShare} f : sProp 𝕄) = oLoc d ↦[oRowSet (tF L)]{fullShare} f := by
  rw [set_oRowK]

/-! ## The task's own storage -/

abbrev cell (s : DmaSem sig) : GSem nD τ sig := (w, .dma s)

theorem cell_ne {a b : DmaSem sig} (h : a ≠ b) : cell d L a ≠ cell d L b := fun e => h (by injection congrArg Prod.snd e)

theorem ownSems0_V :
    (ownSems0 w : sProp 𝕄)
      = iprop(semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0 ∗ semVal (cell d L cc1_scoped5.sem) 0
          ∗ semVal (cell d L cc1_scoped6.sem) 0
          ∗ bigSep ((((((((ownCells w).erase (cell d L cc1_scoped0.sem)).erase (cell d L cc1_scoped1.sem)).erase (cell d L cc1_scoped2.sem)).erase
              (cell d L cc1_scoped3.sem)).erase (cell d L cc1_scoped4.sem)).erase (cell d L cc1_scoped5.sem)).erase (cell d L cc1_scoped6.sem)) fun g => semVal g 0) := by
  unfold SparseCore.Cfg.ownSems0
  rw [SparseCore.bigSep_erase' (s := ownCells w) (i := cell d L cc1_scoped0.sem) ?_, SparseCore.bigSep_erase' (i := cell d L cc1_scoped1.sem) ?_,
    SparseCore.bigSep_erase' (i := cell d L cc1_scoped2.sem) ?_, SparseCore.bigSep_erase' (i := cell d L cc1_scoped3.sem) ?_,
    SparseCore.bigSep_erase' (i := cell d L cc1_scoped4.sem) ?_, SparseCore.bigSep_erase' (i := cell d L cc1_scoped5.sem) ?_,
    SparseCore.bigSep_erase' (i := cell d L cc1_scoped6.sem) ?_]
  all_goals
    repeat' first
      | exact cell_ne d L (by decide)
      | refine Finset.mem_erase.mpr ⟨?_, ?_⟩
      | exact (mem_ownCells (g := cell d L _)).mpr ⟨rfl, by first
          | (show (SemLoc.dma cc1_scoped0.sem : SemLoc sig).isScoped .scVector = true; decide)
          | (show (SemLoc.dma cc1_scoped1.sem : SemLoc sig).isScoped .scVector = true; decide)
          | (show (SemLoc.dma cc1_scoped2.sem : SemLoc sig).isScoped .scVector = true; decide)
          | (show (SemLoc.dma cc1_scoped3.sem : SemLoc sig).isScoped .scVector = true; decide)
          | (show (SemLoc.dma cc1_scoped4.sem : SemLoc sig).isScoped .scVector = true; decide)
          | (show (SemLoc.dma cc1_scoped5.sem : SemLoc sig).isScoped .scVector = true; decide)
          | (show (SemLoc.dma cc1_scoped6.sem : SemLoc sig).isScoped .scVector = true; decide)⟩

/-- Scratch buffer `b`, at some contents. -/
abbrev own1 (b : Ref sig .scVector) : sProp 𝕄 := iprop(∃ f, (w).loc b ↦{fullShare} f)
abbrev dref (b : Ref sig .scVector) : DevRef τ sig := (Proc.scVector (cV L) (jV L)).devRef b

theorem dref_ne {a b : Ref sig .scVector} (h : a ≠ b) : dref L a ≠ dref L b := fun e => h (Proc.devRef_injective _ e)

theorem ownBufs_V :
    (ownBufs w : sProp 𝕄)
      = iprop(own1 d L cc1_scratch0 ∗ own1 d L cc1_scratch1 ∗ own1 d L cc1_scratch2 ∗ own1 d L cc1_scratch3 ∗ own1 d L cc1_scratch4
          ∗ own1 d L cc1_scratch5 ∗ own1 d L cc1_scratch6
          ∗ bigSep ((((((((ownRefs (τ := τ) (.scVector (cV L) (jV L))).erase (dref L cc1_scratch0)).erase (dref L cc1_scratch1)).erase (dref L cc1_scratch2)).erase
              (dref L cc1_scratch3)).erase (dref L cc1_scratch4)).erase (dref L cc1_scratch5)).erase (dref L cc1_scratch6))
              fun b => iprop(∃ f, ((d, b) : Loc nD τ sig) ↦{fullShare} f)) := by
  unfold SparseCore.Cfg.ownBufs
  refine (SparseCore.bigSep_erase' (i := dref L cc1_scratch0) ?_).trans ?_
  rotate_left
  rw [SparseCore.bigSep_erase' (i := dref L cc1_scratch1) ?_,
    SparseCore.bigSep_erase' (i := dref L cc1_scratch2) ?_, SparseCore.bigSep_erase' (i := dref L cc1_scratch3) ?_,
    SparseCore.bigSep_erase' (i := dref L cc1_scratch4) ?_, SparseCore.bigSep_erase' (i := dref L cc1_scratch5) ?_,
    SparseCore.bigSep_erase' (i := dref L cc1_scratch6) ?_]
  all_goals
    repeat' first
      | exact dref_ne L (by decide)
      | refine Finset.mem_erase.mpr ⟨?_, ?_⟩
      | exact SparseCore.Cfg.mem_ownRefs_of_owner (p := Proc.scVector (cV L) (jV L)) rfl

/-! ## What the task's storage holds -/

theorem inb_zero {n : ℕ} (h : n + 1 ≤ 16) : ∀ a, (![16 * n] : Fin 1 → ℕ) a + S16.size a ≤ S256.size a := by
  intro a
  obtain ⟨a, ha⟩ := a
  obtain rfl : a = 0 := Nat.lt_one_iff.mp ha
  show 16 * n + 16 ≤ 256
  omega

/-- The first `n` of an accumulator's sixteen zeroing stores, the latest first. -/
def zpieces : (n : ℕ) → n ≤ 16 → List (View.Piece (Elt F) S256 .f32)
  | 0, _ => []
  | n + 1, h => ⟨Rect.unit (s := S256) ![16 * n] S16.size (inb_zero h), k1_pay1⟩ :: zpieces n (by omega)

theorem zpieces_read {κ : Kind} {sp : Space} (v : View sig κ sp S256 .f32) (f : v.ty.Contents (Elt F)) (y : S256.Idx) :
    ∀ (n : ℕ) (h : n ≤ 16), (y 0).val < 16 * n → v.read (Elt F) (v.writes (Elt F) f (zpieces n h)) y = Scalar.ofBits .f32 0x00000000#32
  | 0, _, hy => absurd hy (by omega)
  | n + 1, h, hy => by
    by_cases hn : (y 0).val < 16 * n
    · rw [zpieces, View.read_writes_cons_miss_of_axis v f _ _ y 0 (16 * n) 16 rfl rfl rfl (.inl hn)]
      exact zpieces_read v f y n _ hn
    · have hx : (y 0).val - 16 * n < 16 := by omega
      rw [zpieces, View.read_writes_cons_hit_of_coords v f _ _ _ (fun | ⟨0, _⟩ => ⟨(y 0).val - 16 * n, hx⟩) y ?_]
      · rfl
      · intro a
        obtain ⟨a, ha⟩ := a
        obtain rfl : a = 0 := Nat.lt_one_iff.mp ha
        show (y 0).val = 16 * n + 1 * ((y 0).val - 16 * n)
        omega

/-- After them an accumulator is zero. -/
theorem zeros_read {κ : Kind} {sp : Space} (v : View sig κ sp S256 .f32) (f : v.ty.Contents (Elt F)) :
    v.read (Elt F) (v.writes (Elt F) f (zpieces 16 le_rfl)) = fun _ => Scalar.ofBits .f32 0x00000000#32 :=
  funext fun y => zpieces_read v f y 16 le_rfl (show (y 0).val < 16 * 16 from (y 0).isLt)

theorem off1_eq (r : Fin 2) (z : BitVec 32) (hz : z = BitVec.ofNat 32 (16384 * r.val)) : k1_off1 L z = ![32768 * tN L + 16384 * r.val] := by
  subst hz
  rw [k1_off1_eq]
  congr 1
  show 65536 * (L 1).val + 32768 * (L 0).val + 16384 * r.val = 32768 * (2 * (L 1).val + (L 0).val) + 16384 * r.val
  omega

/-- A fetch's payload is its window of the array. -/
theorem fetch_win {e : EltTy} (v : View sig .scVector .hbm S1048576 e) (f : v.ty.Contents (Elt F)) (B : Vec F S1048576 e) (hf : v.read (Elt F) f = B)
    (r : Fin 2) (z : BitVec 32) (hz : z = BitVec.ofNat 32 (16384 * r.val)) (h : ∀ a, k1_off1 L z a + S16384.size a ≤ S1048576.size a) :
    (v.slice (Rect.unit (s := S1048576) (k1_off1 L z) S16384.size h)).read (Elt F) f = win B (32768 * tN L + 16384 * r.val) := by
  subst hf
  funext x
  have hx : (x 0).val < 16384 := (x 0).isLt
  have ht := tN_lt L
  have hr := r.isLt
  show v.read (Elt F) f _ = v.read (Elt F) f _
  congr 1
  funext a
  obtain ⟨a, ha⟩ := a
  obtain rfl : a = 0 := Nat.lt_one_iff.mp ha
  apply Fin.ext
  show k1_off1 L z 0 + 1 * (x 0).val = (32768 * tN L + 16384 * r.val + (x 0).val) % 1048576
  have h0 : k1_off1 L z 0 = 32768 * tN L + 16384 * r.val := congrFun (off1_eq L r z hz) 0
  rw [h0]
  omega

/-- Sixteen lanes of an accumulator from `o` on. -/
def rowAt (f : Vec F S256 .f32) (o : ℕ) : Vec F S16 .f32 := fun y => f (fun | ⟨0, _⟩ => ⟨(o + (y 0).val) % 256, Nat.mod_lt _ (by decide)⟩)

theorem unit_emb (o : ℕ) (h : ∀ a, (![o] : Fin 1 → ℕ) a + S16.size a ≤ S256.size a) (y : S16.Idx) :
    (Rect.unit (s := S256) ![o] S16.size h).emb y = (fun | ⟨0, _⟩ => ⟨(o + (y 0).val) % 256, Nat.mod_lt _ (by decide)⟩) := by
  have hy : (y 0).val < 16 := (y 0).isLt
  have ho : o + 16 ≤ 256 := h 0
  funext a
  obtain ⟨a, ha⟩ := a
  obtain rfl : a = 0 := Nat.lt_one_iff.mp ha
  apply Fin.ext
  show o + 1 * (y 0).val = (o + (y 0).val) % 256
  omega

theorem load3 (o : ℕ) (h : ∀ a, (![o] : Fin 1 → ℕ) a + S16.size a ≤ S256.size a) (f : Vec F S256 .f32) :
    (Memref.whole (sig := sig) (κ := .scVector) cc1_scratch3).view.readAt (Elt F) (Rect.unit (s := S256) ![o] S16.size h).toLoadRect f = rowAt f o :=
  funext fun y => congrArg f (unit_emb o h y)

theorem load4 (o : ℕ) (h : ∀ a, (![o] : Fin 1 → ℕ) a + S16.size a ≤ S256.size a) (f : Vec F S256 .f32) :
    (Memref.whole (sig := sig) (κ := .scVector) cc1_scratch4).view.readAt (Elt F) (Rect.unit (s := S256) ![o] S16.size h).toLoadRect f = rowAt f o :=
  funext fun y => congrArg f (unit_emb o h y)

theorem load5 (o : ℕ) (h : ∀ a, (![o] : Fin 1 → ℕ) a + S16.size a ≤ S256.size a) (f : Vec F S256 .f32) :
    (Memref.whole (sig := sig) (κ := .scVector) cc1_scratch5).view.readAt (Elt F) (Rect.unit (s := S256) ![o] S16.size h).toLoadRect f = rowAt f o :=
  funext fun y => congrArg f (unit_emb o h y)

theorem arow_eq (f : Vec F S256 .f32) (r : ℕ) : arow f r = rowAt f (16 * r) := rfl

theorem sum_cnt (f : Vec F S256 .f32) :
    k1_pay10 (k1_pay8 (k1_pay4 k1_pay1 (rowAt f 0) (rowAt f 16) (rowAt f 32)) (rowAt f 48) (rowAt f 64) (rowAt f 80) (rowAt f 96) (rowAt f 112) (rowAt f 128) (rowAt f 144))
      (rowAt f 160) (rowAt f 176) (rowAt f 192) (rowAt f 208) (rowAt f 224) (rowAt f 240) = rsum f 16 := by
  simp only [rsum, arow_eq, k1_pay10, k1_pay8, k1_pay4, Nat.reduceMul]

theorem sum_conf (f : Vec F S256 .f32) :
    k1_pay11 (k1_pay9 (k1_pay5 k1_pay1 (rowAt f 0) (rowAt f 16) (rowAt f 32)) (rowAt f 48) (rowAt f 64) (rowAt f 80) (rowAt f 96) (rowAt f 112) (rowAt f 128) (rowAt f 144))
      (rowAt f 160) (rowAt f 176) (rowAt f 192) (rowAt f 208) (rowAt f 224) (rowAt f 240) = rsum f 16 := by
  simp only [rsum, arow_eq, k1_pay11, k1_pay9, k1_pay5, Nat.reduceMul]

theorem sum_acc (f : Vec F S256 .f32) :
    k1_pay12 (k1_pay7 (k1_pay6 k1_pay1 (rowAt f 0) (rowAt f 16) (rowAt f 32)) (rowAt f 48) (rowAt f 64) (rowAt f 80) (rowAt f 96) (rowAt f 112) (rowAt f 128))
      (rowAt f 144) (rowAt f 160) (rowAt f 176) (rowAt f 192) (rowAt f 208) (rowAt f 224) (rowAt f 240) = rsum f 16 := by
  simp only [rsum, arow_eq, k1_pay12, k1_pay7, k1_pay6, Nat.reduceMul]

/-- The three rows task `t` leaves. -/
def tileRows (B : Vec F S1048576 .i32) (C A : Vec F S1048576 .f32) (t : ℕ) : Vec F S3x16 .f32 :=
  fun x => tileRow B C A t (x 0) (fun | ⟨0, _⟩ => x 1)

theorem cast_row (p : Vec F S16 .f32) (x : S1x16.Idx) : shapeCast S1x16 p shapeCasts_S16_S1x16 x = p (fun | ⟨0, _⟩ => x 1) := by
  apply shapeCast_apply
  rw [Shape.rowMajor_val_one, Shape.rowMajor_val_two]
  have h0 : (x 0).val < 1 := (x 0).isLt
  show (x 1).val = (x 0).val * 16 + (x 1).val
  omega

/-- Three stored rows, read back. -/
theorem rows_read {κ : Kind} {sp : Space} (v : View sig κ sp S3x16 .f32) (f : v.ty.Contents (Elt F)) (B : Vec F S1048576 .i32)
    (C A : Vec F S1048576 .f32) (t : ℕ) (p0 p1 p2 : Vec F S16 .f32) (h0 : p0 = rsum (accum B (fun _ => k1_pay3) (32768 * t) 2048) 16) (h1 : p1 = rsum (accum B (lanes C) (32768 * t) 2048) 16)
    (h2 : p2 = rsum (accum B (lanes A) (32768 * t) 2048) 16) :
    v.read (Elt F) (v.writes (Elt F) f
        [⟨Rect.unit (s := S3x16) ![2, 0] S1x16.size inb_S3x16_S1x16_2_0, shapeCast S1x16 p2 shapeCasts_S16_S1x16⟩,
          ⟨Rect.unit (s := S3x16) ![1, 0] S1x16.size inb_S3x16_S1x16_1_0, shapeCast S1x16 p1 shapeCasts_S16_S1x16⟩,
          ⟨Rect.unit (s := S3x16) ![0, 0] S1x16.size inb_S3x16_S1x16_0_0, shapeCast S1x16 p0 shapeCasts_S16_S1x16⟩])
      = tileRows B C A t := by
  subst h0 h1 h2
  funext y
  obtain ⟨r, hr⟩ : ∃ r : Fin 3, y 0 = r := ⟨y 0, rfl⟩
  fin_cases r
  · rw [View.read_writes_cons_rows_of_not_mem v f inb_S3x16_S1x16_2_0 _ _ y (o := 2) (W := 1) rfl rfl (.inl (by rw [hr]; decide)),
      View.read_writes_cons_rows_of_not_mem v f inb_S3x16_S1x16_1_0 _ _ y (o := 1) (W := 1) rfl rfl (.inl (by rw [hr]; decide)),
      View.read_writes_cons_rows_of_mem v f inb_S3x16_S1x16_0_0 _ _ y (fun | 0 => (0 : Fin 1) | 1 => y 1) (o := 0) rfl (by rw [hr]; rfl) rfl]
    rw [cast_row, tileRows, hr]
    simp only [tileRow]
  · rw [View.read_writes_cons_rows_of_not_mem v f inb_S3x16_S1x16_2_0 _ _ y (o := 2) (W := 1) rfl rfl (.inl (by rw [hr]; decide)),
      View.read_writes_cons_rows_of_mem v f inb_S3x16_S1x16_1_0 _ _ y (fun | 0 => (0 : Fin 1) | 1 => y 1) (o := 1) rfl (by rw [hr]; rfl) rfl]
    rw [cast_row, tileRows, hr]
    simp only [tileRow]
  · rw [View.read_writes_cons_rows_of_mem v f inb_S3x16_S1x16_2_0 _ _ y (fun | 0 => (0 : Fin 1) | 1 => y 1) (o := 2) rfl (by rw [hr]; rfl) rfl]
    rw [cast_row, tileRows, hr]
    simp only [tileRow]

/-- The task's row of the whole result. -/
theorem read_row (B : Vec F S1048576 .i32) (C A : Vec F S1048576 .f32) : (oRowK L).view.read (Elt F) (histA B C A) = tileRows B C A (tN L) := by
  funext x
  have hk : Shape.reshapeEquiv (s := S1x3x16) (s' := S3x16) squeezes_S1x3x16_S3x16.numel_eq x = (fun | 0 => (0 : Fin 1) | 1 => x 0 | 2 => x 1) := by
    apply Shape.reshapeEquiv_eq_of_rowMajor
    rw [Shape.rowMajor_val_two, Shape.rowMajor_val_three]
    show (0 * 3 + (x 0).val) * 16 + (x 1).val = (x 0).val * 16 + (x 1).val
    omega
  show histA B C A ((orowK L).emb (Shape.reshapeEquiv (s := S1x3x16) (s' := S3x16) squeezes_S1x3x16_S3x16.numel_eq x)) = _
  rw [hk]
  have e0 : k1_off4 L 0 = tN L := congrFun (k1_off4_eq L) 0
  have e1 : k1_off4 L 1 = 0 := congrFun (k1_off4_eq L) 1
  have e2 : k1_off4 L 2 = 0 := congrFun (k1_off4_eq L) 2
  unfold histA tileRows
  congr 1
  · apply Fin.ext
    show k1_off4 L 1 + 1 * (x 0).val = (x 0).val
    omega
  · funext a
    obtain ⟨a, ha⟩ := a
    obtain rfl : a = 0 := Nat.lt_one_iff.mp ha
    apply Fin.ext
    show k1_off4 L 2 + 1 * (x 1).val = (x 1).val
    omega

theorem pts_row (B : Vec F S1048576 .i32) (C A : Vec F S1048576 .f32) (fo : Buf (Elt F) (oLoc d)) (p : Vec F S3x16 .f32) (hp : p = tileRows B C A (tN L)) :
    ((oRowK L).view.loc w ↦[(oRowK L).view.set]{fullShare} (oRowK L).view.writes (Elt F) fo [⟨Rect.whole S3x16, p⟩] : sProp 𝕄)
      = oLoc d ↦[oRowSet (tF L)]{fullShare} histA B C A := by
  rw [← pts_oRowK (F := F) d L (histA B C A), pointsTo_rep w (oRowK L), pointsTo_rep w (oRowK L) (histA B C A), View.read_writes_whole,
    read_row, hp]

/-! ## The task -/

set_option maxHeartbeats 40000000 in
theorem tile_body (hF : (K (F := F)).Facts) (q : PosShare TreeShare) (B : Vec F S1048576 .i32) (C A : Vec F S1048576 .f32)
    (hB : ∀ x, (B x).toNat < 16) (fo : Buf (Elt F) (oLoc d)) (O : CellTallies nD τ sig (HIx 1)) (W : Waits sig (HIx 1)) (hO : ∀ g, O g none = 0) :
    iprop(levAts (K (F := F)).L (K (F := F)).lev ∗ emp
        ∗ (((bLoc d ↦{q} B : sProp 𝕄)) ∗ (pLoc d ↦{q} C) ∗ (aLoc d ↦{q} A) ∗ oLoc d ↦[oRowSet (tF L)]{fullShare} fo)
        ∗ scopedBufs w ∗ scopedSems0 w ∗ owes w O W)
      ⊢ wp frame (wpE (defs₀ (F := F)) 𝒱₀ w none) Set.univ
          (cc1_hist L bV (Memref.isWhole_whole _) pV (Memref.isWhole_whole _) aV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _)
            cc1_scoped0 cc1_scoped1 cc1_scoped2 cc1_scoped3 cc1_scoped4 cc1_scoped5 cc1_scoped6)
          fun _ => iprop(((bLoc d ↦{q} B : sProp 𝕄) ∗ (pLoc d ↦{q} C) ∗ (aLoc d ↦{q} A) ∗ oLoc d ↦[oRowSet (tF L)]{fullShare} histA B C A)
            ∗ scopedBufs w ∗ scopedSems0 w ∗ ∃ W', ⌜∀ p ∈ W', p ∈ W ∨ p.2 = none⌝ ∗ owes w O W') := by
  rw [cc1_hist_eq_skeleton]; unfold cc1_hist_skel
  rw [k1_part1_eq_skeleton, k1_part2_eq_skeleton, k1_part3_eq_skeleton, k1_part4_eq_skeleton, k1_part5_eq_skeleton, k1_part6_eq_skeleton]
  unfold k1_part1_skel k1_part2_skel k1_part3_skel
  rw [(K (F := F)).scopedBufs_V hF d (cV L) (jV L), SparseCore.Cfg.scopedSems0_V (Val := Elt F) d (cV L) (jV L), ownSems0_V, ownBufs_V]
  iintro ⟨#Hlv, -, ⟨Hb, Hp, Ha, Ho⟩, ⟨⟨%f0, H0⟩, ⟨%f1, H1⟩, ⟨%f2, H2⟩, ⟨%f3, H3⟩, ⟨%f4, H4⟩, ⟨%f5, H5⟩, ⟨%f6, H6⟩, Hbufs⟩,
    ⟨Hs0, Hs1, Hs2, Hs3, Hs4, Hs5, Hs6, Hsems⟩, HO⟩
  ihave Hmw := (show levAts (K (F := F)).L (K (F := F)).lev ⊢ Transfers.MayWaits w (default : HIx 1) O from
    (K (F := F)).mayWaits_none (thr := w) hO) $$ Hlv
  ihave Hb := (Entails.of_eq (show (bLoc d ↦{q} B : sProp 𝕄) = ((bV).view.loc w ↦{q} B) from rfl)) $$ Hb
  ihave Hp := (Entails.of_eq (show (pLoc d ↦{q} C : sProp 𝕄) = ((pV).view.loc w ↦{q} C) from rfl)) $$ Hp
  ihave Ha := (Entails.of_eq (show (aLoc d ↦{q} A : sProp 𝕄) = ((aV).view.loc w ↦{q} A) from rfl)) $$ Ha
  ihave Ho := (Entails.of_eq (pts_oRowK (F := F) d L _).symm) $$ Ho
  ihave H0 := (Entails.of_eq (show ((w).loc cc1_scratch0 ↦{fullShare} f0 : sProp 𝕄) = ((s0).view.loc w ↦{fullShare} f0) from rfl)) $$ H0
  ihave H1 := (Entails.of_eq (show ((w).loc cc1_scratch1 ↦{fullShare} f1 : sProp 𝕄) = ((s1).view.loc w ↦{fullShare} f1) from rfl)) $$ H1
  ihave H2 := (Entails.of_eq (show ((w).loc cc1_scratch2 ↦{fullShare} f2 : sProp 𝕄) = ((s2).view.loc w ↦{fullShare} f2) from rfl)) $$ H2
  ihave H3 := (Entails.of_eq (show ((w).loc cc1_scratch3 ↦{fullShare} f3 : sProp 𝕄) = ((s3).view.loc w ↦{fullShare} f3) from rfl)) $$ H3
  ihave H4 := (Entails.of_eq (show ((w).loc cc1_scratch4 ↦{fullShare} f4 : sProp 𝕄) = ((s4).view.loc w ↦{fullShare} f4) from rfl)) $$ H4
  ihave H5 := (Entails.of_eq (show ((w).loc cc1_scratch5 ↦{fullShare} f5 : sProp 𝕄) = ((s5).view.loc w ↦{fullShare} f5) from rfl)) $$ H5
  ihave H6 := (Entails.of_eq (show ((w).loc cc1_scratch6 ↦{fullShare} f6 : sProp 𝕄) = ((s6).view.loc w ↦{fullShare} f6) from rfl)) $$ H6
  sl_exec
  sl_for (inv d L B C A 0) $$ [H0 H1 H2 H3 H4 H5]
  case region => exact fun k acc => t1_step d L B C A hB _ _ acc k
  · unfold inv trips
    rw [show @Eq (Vec F S256 .f32) ((Memref.whole cc1_scratch3).view.writes (Elt F) (Memref.whole cc1_scratch3).view.junk tile_body.sl.H3_16) _
        from zeros_read (F := F) (Memref.whole cc1_scratch3).view (Memref.whole cc1_scratch3).view.junk,
      show @Eq (Vec F S256 .f32) ((Memref.whole cc1_scratch4).view.writes (Elt F) (Memref.whole cc1_scratch4).view.junk tile_body.sl.H4_16) _
        from zeros_read (F := F) (Memref.whole cc1_scratch4).view (Memref.whole cc1_scratch4).view.junk,
      show @Eq (Vec F S256 .f32) ((Memref.whole cc1_scratch5).view.writes (Elt F) (Memref.whole cc1_scratch5).view.junk tile_body.sl.H5_16) _
        from zeros_read (F := F) (Memref.whole cc1_scratch5).view (Memref.whole cc1_scratch5).view.junk,
      View.write_whole_univ, View.write_whole_univ, View.write_whole_univ,
      show tile_body.sl.dma96 L B = win B (32768 * tN L + 16384 * 0) from fetch_win L (Memref.whole main_v3_scv).view B B rfl 0 _ rfl _,
      show tile_body.sl.dma96_1 L C = win C (32768 * tN L + 16384 * 0) from fetch_win L (Memref.whole main_v4_scv).view C C rfl 0 _ rfl _,
      show tile_body.sl.dma96_2 L A = win A (32768 * tN L + 16384 * 0) from fetch_win L (Memref.whole main_v5_scv).view A A rfl 0 _ rfl _]
    isplitl [H0]
    · iexact H0
    isplitl [H1]
    · iexact H1
    isplitl [H2]
    · iexact H2
    isplitl [H3]
    · iexact H3
    isplitl [H4]
    · iexact H4
    iexact H5
  iintro %_ HI
  unfold inv trips
  icases HI with ⟨H0, H1, H2, H3, H4, H5⟩
  sl_exec
  sl_for (inv d L B C A 1) $$ [H0 H1 H2 H3 H4 H5]
  case region => exact fun k acc => t2_step d L B C A hB _ _ acc k
  · unfold inv trips
    rw [View.write_whole_univ, View.write_whole_univ, View.write_whole_univ,
      show tile_body.sl.dma0 L B = win B (32768 * tN L + 16384 * 1) from fetch_win L (Memref.whole main_v3_scv).view B B rfl 1 _ rfl _,
      show tile_body.sl.dma0_1 L C = win C (32768 * tN L + 16384 * 1) from fetch_win L (Memref.whole main_v4_scv).view C C rfl 1 _ rfl _,
      show tile_body.sl.dma0_2 L A = win A (32768 * tN L + 16384 * 1) from fetch_win L (Memref.whole main_v5_scv).view A A rfl 1 _ rfl _]
    isplitl [H0]
    · iexact H0
    isplitl [H1]
    · iexact H1
    isplitl [H2]
    · iexact H2
    isplitl [H3]
    · iexact H3
    isplitl [H4]
    · iexact H4
    iexact H5
  iintro %_ HI
  unfold inv trips
  icases HI with ⟨H0, H1, H2, H3, H4, H5⟩
  rw [show 1024 * 1 + Scf.trips k1_t2_loop.lb k1_t2_loop.ub k1_t2_loop.st = 2048 from by decide]
  sl_exec
  sl_step
  have hrow : tile_body.sl.dma54 d L B C A f6 = tileRows B C A (tN L) :=
    rows_read (Memref.whole cc1_scratch6).view f6 B C A (tN L) (tile_body.sl.r_6 L B) (tile_body.sl.r_7 L B C) (tile_body.sl.r_8 L B A)
      (by
        unfold tile_body.sl.r_6 tile_body.sl.r_4 tile_body.sl.r
        rw [load3, load3, load3, load3, load3, load3, load3, load3, load3, load3, load3, load3, load3, load3, load3, load3]
        with_reducible exact sum_cnt _)
      (by
        unfold tile_body.sl.r_7 tile_body.sl.r_5 tile_body.sl.r_1
        rw [load4, load4, load4, load4, load4, load4, load4, load4, load4, load4, load4, load4, load4, load4, load4, load4]
        with_reducible exact sum_conf _)
      (by
        unfold tile_body.sl.r_8 tile_body.sl.r_3 tile_body.sl.r_2
        rw [load5, load5, load5, load5, load5, load5, load5, load5, load5, load5, load5, load5, load5, load5, load5, load5]
        with_reducible exact sum_acc _)
  isplitl [Hb Hp Ha Ho]
  · isplitl [Hb]; · iexact Hb
    isplitl [Hp]; · iexact Hp
    isplitl [Ha]; · iexact Ha
    iapply (Entails.of_eq (pts_row (F := F) d L B C A fo _ hrow)); iexact Ho
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [Hs0 Hs1 Hs2 Hs3 Hs4 Hs5 Hs6 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KI

end
-- ==== Proof.RegionRule.lean ====
/-
  The dense stage's region rule: entered with every unscoped buffer held at a valuation and the launch's debts owed,
  left with the three results put into the valuation and the same debts.
-/
module

public import proofs.«01_k».proof.Proof.Region

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S V T)
open Idealize.ShloMosaic.SparseCore.Cfg (HIx Pay)
open Idealize.ShloMosaic.StableHlo (held)

variable {F : FTy → Type} [FloatOps F]

local notation "𝕄" => MT nD τ sig (HIx 1) (Elt F) ℕ UU ℕ

/-- The TensorCore's unscoped references: what the thread state holds at a valuation. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

/-- The valuation the region leaves: the three results put in. -/
def exitV (W : Valuation τ sig (Elt F)) : Valuation τ sig (Elt F) :=
  Function.update (Function.update (Function.update W (Proc.devRef .tc main_v2_0) (confA (W main_arg0)))
    (Proc.devRef .tc main_v2_1) (accA (W main_arg0) (W main_v1)))
    (Proc.devRef .tc main_v2_2) (binA (W main_v0) (W main_arg0))

theorem exitV_0 (W : Valuation τ sig (Elt F)) : exitV W main_v2_0 = confA (W main_arg0) := by
  unfold exitV
  rw [Function.update_of_ne (by decide), Function.update_of_ne (by decide), Function.update_self]
theorem exitV_1 (W : Valuation τ sig (Elt F)) : exitV W main_v2_1 = accA (W main_arg0) (W main_v1) := by
  unfold exitV
  rw [Function.update_of_ne (by decide), Function.update_self]
theorem exitV_2 (W : Valuation τ sig (Elt F)) : exitV W main_v2_2 = binA (W main_v0) (W main_arg0) := by
  unfold exitV
  rw [Function.update_self]
theorem exitV_ne (W : Valuation τ sig (Elt F)) (b : DevRef τ sig) (h0 : b ≠ Proc.devRef .tc main_v2_0) (h1 : b ≠ Proc.devRef .tc main_v2_1)
    (h2 : b ≠ Proc.devRef .tc main_v2_2) : exitV W b = W b := by
  unfold exitV
  rw [Function.update_of_ne h2, Function.update_of_ne h1, Function.update_of_ne h0]

/-- What the TensorCore may have waited for before the first call: pairs of level zero. -/
def Wr (c : Dev nD) : Set (SemLoc sig × HIx 1) := {p | (K (F := F)).lev ((T c : Thread nD τ), p.1) p.2 ≤ 0}

/-- The debts of the launch, unchanged over the region. -/
abbrev O (c : Dev nD) : CellTallies nD τ sig (HIx 1) := (K (F := F)).Otc c 0

theorem O_none (c : Dev nD) (g : GSem nD τ sig) : O (F := F) c g none = 0 := by
  by_contra h
  have := (K (F := F)).lev_of_Otc_pos (d := c) (n := 0) (g := g) (ι := none) (Nat.pos_of_ne_zero h)
  rw [SparseCore.Cfg.lev_none] at this
  omega

section
variable (W : Valuation τ sig (Elt F))

theorem arr_final (c : Dev nD) : ∀ w : Fin 6, (dat (O (F := F)) (Wr (F := F)) (fun _ b => W b) c).arrAt w cfg0.N = exitV W (Pipeline.arrRef spec0 w)
  | ⟨0, _⟩ => ((dat (O (F := F)) (Wr (F := F)) (fun _ b => W b) c).arrAt_in 0 rfl _).trans (exitV_ne W (Proc.devRef .tc main_v0) (by decide) (by decide) (by decide)).symm
  | ⟨1, _⟩ => ((dat (O (F := F)) (Wr (F := F)) (fun _ b => W b) c).arrAt_in 1 rfl _).trans (exitV_ne W (Proc.devRef .tc main_arg0) (by decide) (by decide) (by decide)).symm
  | ⟨2, _⟩ => ((dat (O (F := F)) (Wr (F := F)) (fun _ b => W b) c).arrAt_in 2 rfl _).trans (exitV_ne W (Proc.devRef .tc main_v1) (by decide) (by decide) (by decide)).symm
  | ⟨3, _⟩ => (final_conf _ _ _ c).trans (exitV_0 W).symm
  | ⟨4, _⟩ => (final_acc _ _ _ c).trans (exitV_1 W).symm
  | ⟨5, _⟩ => (final_bin _ _ _ c).trans (exitV_2 W).symm
  | ⟨_ + 6, h⟩ => absurd h (Nat.not_lt.2 (Nat.le_add_left _ _))

/-- The proof data over the one pipeline, every device entered at `W`. -/
def pdats : (p : Fin 1) → (c : Dev nD) → Pipeline.Dat τ (Elt F) (HIx 1) ℕ UU ℕ (Pipeline.pin (pcfgs (F := F)) adm p) c
  | ⟨0, _⟩ => fun c => dat (O (F := F)) (Wr (F := F)) (fun _ b => W b) c

abbrev owesR (c : Dev nD) : sProp 𝕄 := iprop(∃ w, ⌜∀ p ∈ w, p ∈ Wr (F := F) c⌝ ∗ owes (c : Thread nD τ) (O (F := F) c) w)

set_option backward.isDefEq.respectTransparency.types false in
def reg : Pipeline.RegionSeg (pcfgs (F := F)) adm (pdats W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (O (F := F)) (Wr (F := F)) (fun _ b => W b) c).loose
  hwaits c := Pipeline.cellsWaits_intro _ _ _ _ _ fun w s t => (K (F := F)).mayWait_none _ fun g => O_none c g
  pre c := iprop(unscopedBufs c (fun b => W b) ∗ owesR c)
  post c := iprop(unscopedBufs c (fun b => exitV W b) ∗ owesR c)
  X _ := BI.emp
  Y _ := BI.emp
  Z c := Pipeline.unscopedRest (Ix := HIx 1) (Name := ℕ) (U := UU) (Lvl := ℕ) spec0 c (fun b => W b)
  hentry c := by
    rw [Pipeline.ownSems0_none]
    have hsplit := Pipeline.arrays_of_unscopedBufs (p := 0) (pcfgs (F := F)) adm (pdats W) launch0.win launch0.arr_whole c
      ((pdats W 0 c).share_full fun _ => rfl) (fun b => W b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%w, %hw, HO⟩; iexists w; isplitr; · ipureintro; exact fun p hp => Or.inl (hw p hp)
      iexact HO
    isplitr; · iempintro
    iexact Hrest
  hin c := by
    rw [show (pdats W 0 c).Φ 0 = Φc c from rfl]
    iintro ⟨-, -, Hr⟩; iexact Hr
  hout c := by
    rw [Pipeline.ownSems0_none, show (pdats W 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (fun b => W b) (fun b => exitV W b) ((pdats W 0 c).arrAt · cfg0.N)
      (fun w => arr_final W c w)
      (fun b hb => exitV_ne W _ (fun h => hb (Finset.mem_image.mpr ⟨3, Finset.mem_univ _, (Proc.devRef_injective _ h).symm⟩))
        (fun h => hb (Finset.mem_image.mpr ⟨4, Finset.mem_univ _, (Proc.devRef_injective _ h).symm⟩))
        (fun h => hb (Finset.mem_image.mpr ⟨5, Finset.mem_univ _, (Proc.devRef_injective _ h).symm⟩)))
    iintro ⟨Ha, HO, -, Hrest⟩
    imodintro
    isplitl [Ha Hrest]
    · iapply hjoin; isplitl [Ha] <;> iassumption
    unfold Pipeline.Dat.owesAt Pipeline.owesWithin
    icases HO with ⟨%w, %hw, HO⟩; iexists w; isplitr; swap; · iexact HO
    ipureintro
    intro p hp
    rcases hw hp with h | h
    · exact h
    · obtain ⟨w', s', rfl⟩ := h
      exact le_of_eq (SparseCore.Cfg.lev_none _ _)

theorem cells_inj : Function.Injective (Pipeline.cellOf (nD := nD) (τ := τ) (Pipeline.pin (pcfgs (F := F)) adm)) := cellOf_inj

/-- The pipeline's rounds inside the certificate's resource. -/
def EP : Emb (UR sig nD τ) 𝕄 := (Emb.inl : Emb (UR sig nD τ) (UR sig nD τ × Counters)).trans embR

instance EP_landsIn : (EP (F := F) : Emb (UR sig nD τ) 𝕄).LandsIn (upEmb : UEmb _ 𝕄) := by unfold EP; infer_instance

/-- THE REGION RULE. -/
theorem region_wp (c : Dev nD) {α : Type} (k : PUnit → Prog (TpuEff nD τ sig (Elt F) (ΛP (F := F)) .tc) α) (Q : α → sProp 𝕄) :
    iprop((iprop(boundary (c.tc : Thread nD τ) ∗ held (c : Thread nD τ) ucRefs (exitV W) ∗ owesR c) -∗ wp frame (wpE (D (F := F)) 𝒱 (c.tc : Thread nD τ) none) Set.univ (k ⟨⟩) Q)
        ∗ boundary (c.tc : Thread nD τ) ∗ (held (c : Thread nD τ) ucRefs W ∗ owesR c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q := by
  have h := Pipeline.RegionSeg.wp (pcfgs (F := F)) adm (pdats W) (none : HIx 1) cells_inj EP defs₀ 𝒱₀ (K (F := F)).L (K (F := F)).lev (reg W) c none
    (fun u hu => nomatch hu) k Q
  dsimp only [reg] at h
  rw [unscopedBufs_held, unscopedBufs_held] at h
  exact h
end

end Cert.Proof.KI

end
-- ==== Proof.Launch.lean ====
/-
  The launch: what the call of the histogram stage carries, its tasks, and the program's run, with the contents of
  every buffer of the TensorCore at its end.
-/
module

public import Idealize.ShloMosaic.Lib.SparseCore.Quiescent
public import Idealize.ShloMosaic.Lib.SparseCore.Stream
public import Idealize.ShloMosaic.Lib.Pipeline.Kit
public import proofs.«01_k».proof.Proof.Ops
public import proofs.«01_k».proof.Proof.Body
public import proofs.«01_k».proof.Proof.RegionRule

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The contents between the program's stages -/

section Contents

variable (m : (ℓ : Loc nD τ sig) → Buf (Elt F) ℓ) (d : Dev nD)

/-- At the launch. -/
def V0 : Valuation τ sig (Elt F) := fun b => m (d, b)
/-- Before the dense stage. -/
def VA : Valuation τ sig (Elt F) := after opsA (V0 m d)
/-- After it. -/
def VB : Valuation τ sig (Elt F) := exitV (VA m d)
/-- Before the histogram stage. -/
def VC : Valuation τ sig (Elt F) := after opsB (VB m d)
/-- The rows the histogram stage leaves. -/
def histV : Vec F S32x3x16 .f32 := histA (VC m d main_v3) (VC m d main_v4) (VC m d main_v5)
/-- After it. -/
def VD : Valuation τ sig (Elt F) := Function.update (VC m d) (Proc.devRef .tc main_v6) (histV m d)
/-- At the end. -/
def VE : Valuation τ sig (Elt F) := after opsC (VD m d)

end Contents

/-! ## A bin is a count of at most nine -/

theorem tick_le {a : Vec F S2048 .i32} {c : IVec S2048 1} {n : ℕ} (hw : 1 < 32) (h : ∀ y, BitVec.toNat (a y) ≤ n) (y : S2048.Idx) :
    BitVec.toNat (addi a (extui 32 c hw) y : BitVec 32) ≤ n + 1 := by
  have h1 : BitVec.toNat (addi a (extui 32 c hw) y : BitVec 32) = (BitVec.toNat (a y) + BitVec.toNat (BitVec.setWidth 32 (c y) : BitVec 32)) % 2 ^ 32 := rfl
  have h2 := h y
  have h3 : (BitVec.setWidth 32 (c y)).toNat ≤ 1 := by
    rw [BitVec.toNat_setWidth]
    have := (c y).isLt
    omega
  rw [h1]
  exact (Nat.mod_le _ _).trans (by omega)

theorem bin_le (b : Vec F S11 .f32) (x : Vec F S2048x100 .f32) (i : S1x1x2048.Idx) : BitVec.toNat (binV b x i) ≤ 9 := by
  have h : ∀ y, BitVec.toNat (k0_pay7 x (b (ix11 1)) (b (ix11 2)) (b (ix11 3)) (b (ix11 4)) y) ≤ 4 := by
    unfold k0_pay7
    intro y
    refine tick_le (F := F) _ (fun y => tick_le (F := F) _ (fun y => tick_le (F := F) _ (fun y => tick_le (F := F) (n := 0) _ (fun y => ?_) y) y) y) y
    exact le_of_eq rfl
  unfold binV k0_pay3
  show BitVec.toNat (shapeCast S1x1x2048 _ _ i) ≤ 9
  unfold shapeCast
  refine tick_le (F := F) _ (fun y => tick_le (F := F) _ (fun y => tick_le (F := F) _ (fun y => tick_le (F := F) _ (fun y => tick_le (F := F) _ h y) y) y) y) _

theorem VC_bins (m : (ℓ : Loc nD τ sig) → Buf (Elt F) ℓ) (d : Dev nD) (x : S1048576.Idx) : BitVec.toNat (VC m d main_v3 x) < 16 := by
  have h : VC m d main_v3 = shapeCast S1048576 (binA (VA m d main_v0) (VA m d main_arg0)) shapeCasts_S512x1x2048_S1048576 := by
    rw [← exitV_2 (VA m d)]
    show after opsB (VB m d) main_v3 = _
    unfold opsB VB
    after_results
    rfl
  rw [h]
  exact lt_of_le_of_lt (bin_le _ _ _) (by decide)

/-! ## Shares: the full share cut into one piece per task -/

/-- `n + 1` pieces of a share: its left half, and the pieces of its right half. -/
def cut : (n : ℕ) → PosShare TreeShare → Fin (n + 1) → PosShare TreeShare
  | 0, q => fun _ => q
  | n + 1, q => Fin.cons q.left (cut n q.right)

theorem pointsTo_cut {ℓ : Loc nD τ sig} (f : Buf (Elt F) ℓ) :
    ∀ (n : ℕ) (q : PosShare TreeShare), (ℓ ↦{q} f : sProp 𝕄) = bigSep Finset.univ fun t : Fin (n + 1) => ℓ ↦{cut n q t} f
  | 0, q => (bigSep_univ_of_subsingleton (0 : Fin 1) (Φ := fun t : Fin 1 => (ℓ ↦{cut 0 q t} f : sProp 𝕄))).symm
  | n + 1, q => by
    rw [BI.Entails.antisymm (pointsTo_share (PosShare.mem_left_op_right q)).1 (pointsTo_share (PosShare.mem_left_op_right q)).2,
      pointsTo_cut f n q.right]
    exact (bigSep_univ_succ (fun t : Fin (n + 1 + 1) => (ℓ ↦{cut (n + 1) q t} f : sProp 𝕄))).symm

/-- Task `t`'s share of the dense stage's results. -/
abbrev tq (t : Fin 32) : PosShare TreeShare := cut 31 fullShare t

/-! ## What the handshakes carry -/

section Carry

variable (m : (ℓ : Loc nD τ sig) → Buf (Elt F) ℓ)

/-- The coordinates of SparseCore `c`'s task `i`. -/
def coordsV (c : Fin (grid1.bound 0)) (s : Fin (grid1.bound 1)) : grid1.Coords :=
  fun | 0 => c | 1 => s | ⟨_ + 2, h⟩ => absurd h (Nat.not_lt.2 (Nat.le_add_left _ _))

/-- Task `t`'s part of the arrays, its row of the result at `f`. -/
abbrev part (d : Dev nD) (f : Buf (Elt F) (oLoc d)) (t : Fin 32) : sProp 𝕄 :=
  iprop((bLoc d ↦{tq t} VC m d main_v3) ∗ (pLoc d ↦{tq t} VC m d main_v4) ∗ (aLoc d ↦{tq t} VC m d main_v5) ∗ oLoc d ↦[oRowSet t]{fullShare} f)

abbrev tk (c : Fin ((K (F := F)).nCore 0)) (i : Fin ((K (F := F)).nSub 0)) : Fin 32 := tF (coordsV ⟨c.val, c.isLt⟩ ⟨i.val, i.isLt⟩)

def P : (K (F := F)).Pay (nD := nD) (Val := Elt F) (Name := ℕ) (U := UU) where
  st := fun q d c => match q with | 0 => bigSep Finset.univ fun i : Fin ((K (F := F)).nSub 0) => part m d (VC m d main_v6) (tk c i)
  dn := fun q d c => match q with | 0 => bigSep Finset.univ fun i : Fin ((K (F := F)).nSub 0) => part m d (histV m d) (tk c i)
  go := fun q d c i => match q with | 0 => part m d (VC m d main_v6) (tk c i)
  td := fun q d c i => match q with | 0 => part m d (histV m d) (tk c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => part m d (VC m d main_v6) (tk c i)))
  dn q d c := match q with
    | 0 => (inferInstance : BI.Storable (upEmb : UEmb _ 𝕄) (bigSep Finset.univ fun i : Fin ((K (F := F)).nSub 0) => part m d (histV m d) (tk c i)))
  go q d c i := match q with
    | 0 => (inferInstance : BI.Storable (upEmb : UEmb _ 𝕄) (part m d (VC m d main_v6) (tk c i)))
  td q d c i := match q with
    | 0 => (inferInstance : BI.Storable (upEmb : UEmb _ 𝕄) (part m d (histV m d) (tk c i)))

/-! ## The tasks' obligation -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 1 ()
      = SparseCore.onTile hcore1 hsub1 (fun c s => cc1_hist (coordsV c s)
          (Memref.whole main_v3_scv) (Memref.isWhole_whole _) (Memref.whole main_v4_scv) (Memref.isWhole_whole _)
          (Memref.whole main_v5_scv) (Memref.isWhole_whole _) (Memref.whole main_v6_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _)
          cc1_scoped0 cc1_scoped1 cc1_scoped2 cc1_scoped3 cc1_scoped4 cc1_scoped5 cc1_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'
  isplitr
  · ipureintro
    intro p hp
    rcases hW' p hp with h | h
    · exact Or.inl h
    · exact Or.inr (Or.inl h)
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (tk c i)) (VC m d main_v3) (VC m d main_v4) (VC m d main_v5)
    (VC_bins m d) (VC m d main_v6) O W hO).trans (wp_mono frame _ _ fun _ => obl_post)

theorem vecSplit : (K (F := F)).VecSplit' (P m) 0 := by
  intro d c
  show bigSep Finset.univ (fun i : Fin ((K (F := F)).nSub 0) => part m d (VC m d main_v6) (tk c i)) ⊢ |={Set.univ}=> iprop(
      (bigSep Finset.univ fun i : Fin ((K (F := F)).nSub 0) => part m d (VC m d main_v6) (tk c i))
      ∗ ((bigSep Finset.univ fun i : Fin ((K (F := F)).nSub 0) => part m d (histV m d) (tk c i))
          -∗ bigSep Finset.univ fun i : Fin ((K (F := F)).nSub 0) => part m d (histV m d) (tk c i)))
  iintro H
  imodintro
  isplitl [H]; · iexact H
  iintro H
  iexact H

end Carry

/-! ## The tasks' parts together -/

theorem oRowSet_eq (t : Fin 32) : oRowSet t = (orow t).set := by
  show ((View.whole (main_v6_scv : Ref sig .scVector)).slice (orow t)).set = _
  rw [View.set_slice]; exact Finset.map_refl

theorem oPts_rows (d : Dev nD) (f : Buf (Elt F) (oLoc d)) :
    (oLoc d ↦{fullShare} f : sProp 𝕄) = bigSep Finset.univ fun t : Fin 32 => oLoc d ↦[oRowSet t]{fullShare} f := by
  rw [← pointsTo_biUnion Finset.univ (ℓ := oLoc d) oRowSet
      (fun i _ j _ h => by rw [oRowSet_eq, oRowSet_eq]; exact Rect.part_disjoint odiv h),
    show (Finset.univ : Finset (Fin 32)).biUnion oRowSet = Finset.univ from
      (Finset.biUnion_congr rfl fun i _ => oRowSet_eq i).trans (Rect.biUnion_part odiv)]

/-- Task `2 i + c` is SparseCore `c`'s task `i`. -/
def taskEquiv : Fin 2 × Fin 16 ≃ Fin 32 := (Equiv.prodComm (Fin 2) (Fin 16)).trans finProdFinEquiv

theorem tasks_all (Φ : Fin 32 → sProp 𝕄) :
    (bigSep Finset.univ fun c : Fin ((K (F := F)).nCore 0) => bigSep Finset.univ fun i : Fin ((K (F := F)).nSub 0) => Φ (tk c i))
      = bigSep Finset.univ Φ := by
  rw [bigSep_univ_equiv taskEquiv Φ, ← Finset.univ_product_univ, SparseCore.bigSep_product]
  refine bigSep_congr fun c _ => bigSep_congr fun i _ => congrArg Φ (Fin.ext ?_)
  show 2 * i.val + c.val = c.val + 2 * i.val
  omega

section Run

variable (m : (ℓ : Loc nD τ sig) → Buf (Elt F) ℓ) (ρ : Dev nD → PrngReg)

theorem parts_all (d : Dev nD) (f : Buf (Elt F) (oLoc d)) :
    (bigSep Finset.univ fun t : Fin 32 => part m d f t)
      = (iprop((bLoc d ↦{fullShare} VC m d main_v3) ∗ (pLoc d ↦{fullShare} VC m d main_v4) ∗ (aLoc d ↦{fullShare} VC m d main_v5)
          ∗ oLoc d ↦{fullShare} f) : sProp 𝕄) := by
  rw [bigSep_sep', bigSep_sep', bigSep_sep', ← pointsTo_cut, ← pointsTo_cut, ← pointsTo_cut, ← oPts_rows]

theorem st0_eq (d : Dev nD) : (bigSep Finset.univ fun c : Fin ((K (F := F)).nCore 0) => (P m).st 0 d c)
    = iprop((bLoc d ↦{fullShare} VC m d main_v3) ∗ (pLoc d ↦{fullShare} VC m d main_v4) ∗ (aLoc d ↦{fullShare} VC m d main_v5)
          ∗ oLoc d ↦{fullShare} VC m d main_v6) :=
  (tasks_all (F := F) (fun t => part m d (VC m d main_v6) t)).trans (parts_all m d _)
theorem dn0_eq (d : Dev nD) : (bigSep Finset.univ fun c : Fin ((K (F := F)).nCore 0) => (P m).dn 0 d c)
    = iprop((bLoc d ↦{fullShare} VC m d main_v3) ∗ (pLoc d ↦{fullShare} VC m d main_v4) ∗ (aLoc d ↦{fullShare} VC m d main_v5)
          ∗ oLoc d ↦{fullShare} histV m d) :=
  (tasks_all (F := F) (fun t => part m d (histV m d) t)).trans (parts_all m d _)

/-- The buffers the histogram stage is handed. -/
def four : Finset (DevRef τ sig) :=
  {Proc.devRef .tc main_v3, Proc.devRef .tc main_v4, Proc.devRef .tc main_v5, Proc.devRef .tc main_v6}

theorem four_sub : four ⊆ ucRefs := by
  intro b hb
  simp only [four, Finset.mem_insert, Finset.mem_singleton] at hb
  rcases hb with rfl | rfl | rfl | rfl <;>
    exact Finset.mem_filter.mpr ⟨StableHlo.devRef_mem_tcRefs _, by decide⟩

theorem held_four (d : Dev nD) (W : Valuation τ sig (Elt F)) :
    (held (d.tc : Thread nD τ) four W : sProp 𝕄)
      = iprop((bLoc d ↦{fullShare} W main_v3) ∗ (pLoc d ↦{fullShare} W main_v4) ∗ (aLoc d ↦{fullShare} W main_v5) ∗ oLoc d ↦{fullShare} W main_v6) := by
  unfold held four
  rw [SparseCore.bigSep_insert' (by decide), SparseCore.bigSep_insert' (by decide), SparseCore.bigSep_insert' (by decide), bigSep_singleton]

theorem VD_v6 (d : Dev nD) : VD m d main_v6 = histV m d := by
  unfold VD
  rw [Function.update_self]
theorem VD_ne (d : Dev nD) (b : DevRef τ sig) (h : b ≠ Proc.devRef .tc main_v6) : VD m d b = VC m d b := by
  unfold VD
  rw [Function.update_of_ne h]

/-- The buffers before the histogram stage: the four it is handed, and the rest. -/
theorem held_VC (d : Dev nD) : (held (d.tc : Thread nD τ) ucRefs (VC m d) : sProp 𝕄)
    = iprop((bigSep Finset.univ fun c : Fin ((K (F := F)).nCore 0) => (P m).st 0 d c) ∗ held (d.tc : Thread nD τ) (ucRefs \ four) (VC m d)) := by
  rw [StableHlo.held_sub_split _ four_sub, held_four, st0_eq]

/-- And after it. -/
theorem held_VD (d : Dev nD) : (held (d.tc : Thread nD τ) ucRefs (VD m d) : sProp 𝕄)
    = iprop((bigSep Finset.univ fun c : Fin ((K (F := F)).nCore 0) => (P m).dn 0 d c) ∗ held (d.tc : Thread nD τ) (ucRefs \ four) (VC m d)) := by
  rw [StableHlo.held_sub_split _ four_sub, held_four, dn0_eq, VD_v6, VD_ne _ _ _ (by decide), VD_ne _ _ _ (by decide), VD_ne _ _ _ (by decide),
    StableHlo.held_congr _ fun b hb => VD_ne m d b fun h => (Finset.mem_sdiff.mp hb).2 (by rw [h]; simp [four])]

/-! ## The launch element of the ghost state -/

abbrev EH : Emb (URounds (GSem nD τ sig) ℕ) (MT nD τ sig (HIx 1) (Elt F) ℕ UU ℕ) := embL

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What the TensorCore holds for the dense stage's pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (own_pair_emb embR _ _) $$ HR
  icases HR with ⟨HP, -⟩
  imod (Pipeline.fund_ghost (Pipeline.pin (pcfgs (F := F)) adm) (EP (F := F)) cells_inj) $$ [HP] with ⟨Hg, Ht⟩
  · iexact HP
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

theorem tcSt_open (d : Dev nD) : ∃ R : sProp 𝕄, (K (F := F)).tcSt EH d 0 = iprop(owesR (F := F) d ∗ R) := ⟨_, rfl⟩

theorem tcBufs (d : Dev nD) : (unscopedBufs d (fun b => m ((SparseCore.T d).loc b)) : sProp 𝕄) = held (d.tc : Thread nD τ) ucRefs (V0 m d) :=
  unscopedBufs_held d (V0 m d)

abbrev FIN (d : Dev nD) : sProp 𝕄 := held (d.tc : Thread nD τ) ucRefs (VE m d)

theorem sub_uc {ops : List (HloOp τ sig (Elt F))} (h : ops.Forall fun op => op.bufs ⊆ StableHlo.tcRefs τ sig) : ∀ op ∈ ops, op.bufs ⊆ ucRefs :=
  fun op hop => Pipeline.sub_ucRefs op (List.forall_iff_forall_mem.1 h op hop)

theorem region_main (d : Dev nD) (Q : PUnit → sProp 𝕄) :
    iprop((iprop(boundary (d.tc : Thread nD τ) ∗ held (d.tc : Thread nD τ) ucRefs (VB m d) ∗ owesR d) -∗ Q ⟨⟩)
        ∗ boundary (d.tc : Thread nD τ) ∗ (held (d.tc : Thread nD τ) ucRefs (VA m d) ∗ owesR d) ∗ levAts (K (F := F)).L (K (F := F)).lev
        ∗ G (F := F) d)
      ⊢ wp frame (wpE ((K (F := F)).defs (D (F := F))) 𝒱 (SparseCore.T d) none) Set.univ
          (Prog.lift (.customCall (SparseCore.inner (Pipeline.entry 0)) ())) Q := by
  have h1 := (K (F := F)).wp_liftProg (D (F := F)) 𝒱 (SparseCore.T d) Set.univ none
    (.op (.customCall (Pipeline.entry 0) ()) .ret : Prog (TpuEff nD τ sig (Elt F) (ΛP (F := F)) .tc) PUnit) Q
  have h2 := region_wp (VA m d) d (.ret : PUnit → Prog (TpuEff nD τ sig (Elt F) (ΛP (F := F)) .tc) PUnit) Q
  have key : ∀ A R : sProp 𝕄, iprop((A -∗ Q ⟨⟩) ∗ R) ⊢ iprop((A -∗ |={Set.univ}=> Q ⟨⟩) ∗ R) := by
    intro A R
    iintro ⟨HQ, H⟩
    isplitl [HQ]
    · iintro Hx
      imodintro
      iapply HQ; iexact Hx
    · iexact H
  exact (key _ _).trans (h2.trans h1)

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_open (F := F) d
  rw [tcBufs, main_eq, hR]
  iintro ⟨#Hctx, ⟨HO, HR⟩, ⟨Hb, Hh, Hts, -⟩, HG⟩
  iapply (StableHlo.wp_seq 𝒱 none Set.univ d ucRefs _ opsA (sub_uc opsA_sub) (List.forall_iff_forall_mem.1 opsA_fresh) (V0 m d)) $$ [Hb Hh]
  · isplitl [Hb] <;> iassumption
  iintro ⟨Hb, Hh⟩
  ihave Hh := (Entails.of_eq (show (held (d.tc : Thread nD τ) ucRefs (after opsA (V0 m d)) : sProp 𝕄) = held (d.tc : Thread nD τ) ucRefs (VA m d) from rfl)) $$ Hh
  rw [wp_bind]
  iapply (region_main m d _)
  ihave Hlv := (SparseCore.Cfg.ctx_levAts κ) $$ Hctx
  isplitr [Hb Hh HO HG Hlv]
  swap
  · isplitl [Hb]; · iexact Hb
    isplitl [Hh HO]
    · isplitl [Hh] <;> iassumption
    isplitl [Hlv] <;> iassumption
  iintro ⟨Hb, Hh, HO⟩
  iapply (StableHlo.wp_seq 𝒱 none Set.univ d ucRefs _ opsB (sub_uc opsB_sub) (List.forall_iff_forall_mem.1 opsB_fresh) (VB m d)) $$ [Hb Hh]
  · isplitl [Hb] <;> iassumption
  iintro ⟨Hb, Hh⟩
  ihave Hh := (Entails.of_eq (show (held (d.tc : Thread nD τ) ucRefs (after opsB (VB m d)) : sProp 𝕄) = held (d.tc : Thread nD τ) ucRefs (VC m d) from rfl)) $$ Hh
  ihave Hh := (Entails.of_eq (held_VC m d)) $$ Hh
  icases Hh with ⟨Hst, Hrest⟩
  rw [wp_bind]
  ihave Htc := (Entails.of_eq hR.symm) $$ [HO HR]
  · isplitl [HO] <;> iassumption
  iapply ((K (F := F)).wp_run (D (F := F)) 𝒱 (EH := EH) (P := P m) κ d 0)
  isplitr; · iexact Hctx
  isplitl [Htc]; · iexact Htc
  isplitl [Hst]; · iexact Hst
  iintro ⟨Htc, Hdn⟩
  ihave Hh := (Entails.of_eq (held_VD m d).symm) $$ [Hdn Hrest]
  · isplitl [Hdn] <;> iassumption
  rw [← bind_pure (seq opsC)]
  iapply (StableHlo.wp_seq 𝒱 none Set.univ d ucRefs _ opsC (sub_uc opsC_sub) (List.forall_iff_forall_mem.1 opsC_fresh) (VD m d)) $$ [Hb Hh]
  · isplitl [Hb] <;> iassumption
  iintro ⟨Hb, Hh⟩
  ihave Hh := (Entails.of_eq (show (held (d.tc : Thread nD τ) ucRefs (after opsC (VD m d)) : sProp 𝕄) = held (d.tc : Thread nD τ) ucRefs (VE m d) from rfl)) $$ Hh
  rw [wp_pure]
  imodintro
  isplitl [Htc]; · iexact Htc
  isplitl [Hh]; · iexact Hh
  isplitl [Hb] <;> iassumption

/-- What the run leaves in the TensorCore's unscoped buffers. -/
def fq (d : Dev nD) (s' : Phys nD τ sig (Elt F)) : Prop := ∀ b ∈ ucRefs, s'.mem.mem ((d, b) : Loc nD τ sig) = VE m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact fun b hb => h b hb

/-! ## The program's run -/

theorem run_main [∀ e, Nonempty (Elt F e)] :
    θ_run (defs (F := F)) (threads (F := F)) ⟨m, fun _ => 0, ρ⟩
      (fun r => (∀ (d : Dev nD), ∀ b ∈ ucRefs, r.2.mem ((d, b) : Loc nD τ sig) = VE m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) _ (fun _ h hz => ⟨h, hz⟩)

theorem mem_uc (b : Ref sig .tc) (h : (Proc.devRef .tc b : DevRef τ sig).isScoped = false) : (Proc.devRef .tc b : DevRef τ sig) ∈ ucRefs :=
  Finset.mem_filter.mpr ⟨StableHlo.devRef_mem_tcRefs b, by rw [h]; exact Bool.false_ne_true⟩

/-- A buffer neither stage and no host operation writes is as the launch found it. -/
theorem VE_unwritten (d : Dev nD) (r : Ref sig .tc) (hA : r ∉ opsAW) (hB : r ∉ opsBW) (hC : r ∉ opsCW)
    (h0 : (Proc.devRef .tc r : DevRef τ sig) ≠ Proc.devRef .tc main_v2_0) (h1 : (Proc.devRef .tc r : DevRef τ sig) ≠ Proc.devRef .tc main_v2_1)
    (h2 : (Proc.devRef .tc r : DevRef τ sig) ≠ Proc.devRef .tc main_v2_2) (h6 : (Proc.devRef .tc r : DevRef τ sig) ≠ Proc.devRef .tc main_v6) :
    VE m d r = m (d, Proc.devRef .tc r) := by
  unfold VE
  rw [StableHlo.after_unwritten opsCW opsC_writes hC, VD_ne m d _ h6]
  unfold VC
  rw [StableHlo.after_unwritten opsBW opsB_writes hB]
  unfold VB
  rw [exitV_ne _ _ h0 h1 h2]
  unfold VA
  rw [StableHlo.after_unwritten opsAW opsA_writes hA]
  rfl

theorem run [∀ e, Nonempty (Elt F e)] :
    θ_run (defs (F := F)) (threads (F := F)) ⟨m, fun _ => 0, ρ⟩
      (fun r => (∀ c : Dev nD,
          r.2.mem ((c.tc : Thread nD τ).loc main_v27) = VE m c main_v27
          ∧ r.2.mem ((c.tc : Thread nD τ).loc main_v31) = VE m c main_v31
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) :=
  (θ_run (defs (F := F)) _ _).mono (fun _ h => ⟨fun c => ⟨h.1 c _ (mem_uc main_v27 (by decide)), h.1 c _ (mem_uc main_v31 (by decide)),
    (h.1 c _ (mem_uc main_arg0 (by decide))).trans (VE_unwritten m c main_arg0 (by decide) (by decide) (by decide) (by decide) (by decide) (by decide) (by decide)),
    (h.1 c _ (mem_uc main_arg1 (by decide))).trans (VE_unwritten m c main_arg1 (by decide) (by decide) (by decide) (by decide) (by decide) (by decide) (by decide))⟩, h.2⟩)
    (run_main m ρ)

end Run

end Cert.Proof.KI

end
-- ==== Proof.RefOps.lean ====
/-
  The reference as a line of host operations: the softmax, the accuracies and the bounds, then one like stretch of
  operations per bin.
-/
module

public import Idealize.ShloMosaic.Lib.StableHlo.Run
public import Idealize.ShloMosaic.Lib.StableHlo.RunRead
public import proofs.«01_k».proof.Proof.Gen.ReferenceIdeal

@[expose] public section

set_option maxRecDepth 8192

noncomputable section

namespace Cert.Proof.R

open Cert.ReferenceIdeal Cert.ReferenceIdeal.Gen Cert.ReferenceIdeal.Facts

open Idealize.ShloMosaic Idealize.ShloMosaic.StableHlo
open Idealize.ShloMosaic.TcCoe
open Idealize.SL Idealize.SL.Sem

variable {F : FTy → Type} [FloatOps F]

variable (F) in
/-- An array's contents. -/
abbrev C (s : Shape) (e : EltTy) : Type := (⟨s, e⟩ : BufTy).Contents (Elt F)

def seg0 : List (HloOp τ sig (Elt F)) :=
  [nullary main_cst (constant S_ .f32 0xFF800000#32),
   binary main_arg0 main_cst main_v0 ((fun x v => Host.reduce FloatOps.maximumf x v reducesTo_S1048576x100_S1048576_d1 h_S_) : C F S1048576x100 .f32 → C F S_ .f32 → C F S1048576 .f32),
   nullary main_cst_0 (constant S_ .f32 0xFF800000#32),
   unary main_cst_0 main_v1 (broadcastInDim S1048576 ![] bcast_S_S1048576 : C F S_ .f32 → C F S1048576 .f32),
   binary main_v1 main_v0 main_v2 (maximumf : C F S1048576 .f32 → C F S1048576 .f32 → C F S1048576 .f32),
   unary main_v2 main_v3 (broadcastInDim S1048576x1 ![0] bcast_S1048576_S1048576x1_0 : C F S1048576 .f32 → C F S1048576x1 .f32),
   unary main_v3 main_v4 (broadcastInDim S1048576x100 ![0, 1] bcast_S1048576x1_S1048576x100_0_1 : C F S1048576x1 .f32 → C F S1048576x100 .f32),
   binary main_arg0 main_v4 main_v5 (subf : C F S1048576x100 .f32 → C F S1048576x100 .f32 → C F S1048576x100 .f32),
   unary main_v5 main_v6 (Host.exp : C F S1048576x100 .f32 → C F S1048576x100 .f32),
   nullary main_cst_1 (constant S_ .f32 0x00000000#32),
   binary main_v6 main_cst_1 main_v7 ((fun x v => Host.reduceAdd x v reducesTo_S1048576x100_S1048576_d1 h_S_) : C F S1048576x100 .f32 → C F S_ .f32 → C F S1048576 .f32),
   unary main_v7 main_v8 (broadcastInDim S1048576x1 ![0] bcast_S1048576_S1048576x1_0 : C F S1048576 .f32 → C F S1048576x1 .f32),
   unary main_v8 main_v9 (broadcastInDim S1048576x100 ![0, 1] bcast_S1048576x1_S1048576x100_0_1 : C F S1048576x1 .f32 → C F S1048576x100 .f32),
   binary main_v6 main_v9 main_v10 (Host.divf : C F S1048576x100 .f32 → C F S1048576x100 .f32 → C F S1048576x100 .f32),
   nullary main_cst_2 (constant S_ .f32 0xFF800000#32),
   binary main_v10 main_cst_2 main_v11 ((fun x v => Host.reduce FloatOps.maximumf x v reducesTo_S1048576x100_S1048576_d1 h_S_) : C F S1048576x100 .f32 → C F S_ .f32 → C F S1048576 .f32),
   nullary main_call0_v0 ((iotaInDim S1048576x100 32 1) : C F S1048576x100 .i32),
   nullary main_call0_cst ((constant S_ .f32 0xFF800000#32) : C F S_ .f32),
   nullary main_call0_c ((constantI S_ 32 0#32) : C F S_ .i32),
   quaternary main_v10 main_call0_v0 main_call0_cst main_call0_c main_call0_v1_0 ((fun x y u v j => (Host.argReduce reducer_argmax_f32_i32 x y u v reducesTo_S1048576x100_S1048576_d1 h_S_ j).1) : C F S1048576x100 .f32 → C F S1048576x100 .i32 → C F S_ .f32 → C F S_ .i32 → C F S1048576 .f32),
   quaternary main_v10 main_call0_v0 main_call0_cst main_call0_c main_v12 ((fun x y u v j => (Host.argReduce reducer_argmax_f32_i32 x y u v reducesTo_S1048576x100_S1048576_d1 h_S_ j).2) : C F S1048576x100 .f32 → C F S1048576x100 .i32 → C F S_ .f32 → C F S_ .i32 → C F S1048576 .i32),
   binary main_v12 main_arg1 main_v13 (cmpi .eq : C F S1048576 .i32 → C F S1048576 .i32 → C F S1048576 .i1),
   unary main_v13 main_v14 (uitofp .f32 : C F S1048576 .i1 → C F S1048576 .f32),
   nullary main_cst_3 (constant S_ .f32 0x00000000#32),
   binary main_v14 main_cst_3 main_v15 ((fun x v => Host.reduceAdd x v reducesTo_S1048576_S_d0 h_S_) : C F S1048576 .f32 → C F S_ .f32 → C F S_ .f32),
   nullary main_cst_4 (constant S_ .f32 0x49800000#32),
   binary main_v15 main_cst_4 main_v16 (Host.divf : C F S_ .f32 → C F S_ .f32 → C F S_ .f32),
   nullary main_cst_5 (constant S_ .f32 0x00000000#32),
   nullary main_cst_6 (constant S_ .f32 0x3F800000#32),
   unary main_cst_5 main_call1_v0 (id : C F S_ .f32 → C F S_ .f32),
   unary main_cst_6 main_call1_v1 (id : C F S_ .f32 → C F S_ .f32),
   binary main_call1_v1 main_call1_v0 main_call1_v2 (subf : C F S_ .f32 → C F S_ .f32 → C F S_ .f32),
   nullary main_call1_cst ((constant S_ .f32 0x41200000#32) : C F S_ .f32),
   binary main_call1_v2 main_call1_cst main_call1_v3 (Host.divf : C F S_ .f32 → C F S_ .f32 → C F S_ .f32),
   nullary main_call1_v4 ((sitofp .f32 (iotaInDim S10 32 0)) : C F S10 .f32),
   nullary main_call1_cst_0 ((constant S_ .f32 0x41200000#32) : C F S_ .f32),
   unary main_call1_cst_0 main_call1_v5 ((broadcastInDim S10 ![] bcast_S_S10) : C F S_ .f32 → C F S10 .f32),
   binary main_call1_v4 main_call1_v5 main_call1_v6 (Host.divf : C F S10 .f32 → C F S10 .f32 → C F S10 .f32),
   reshape main_call1_v0 main_call1_v7 (rfl : (.f32 : EltTy) = .f32) shapeCasts_S_S1,
   nullary main_call1_cst_1 ((constant S_ .f32 0x3F800000#32) : C F S_ .f32),
   unary main_call1_cst_1 main_call1_v8 ((broadcastInDim S10 ![] bcast_S_S10) : C F S_ .f32 → C F S10 .f32),
   binary main_call1_v8 main_call1_v6 main_call1_v9 (subf : C F S10 .f32 → C F S10 .f32 → C F S10 .f32),
   unary main_call1_v7 main_call1_v10 ((broadcastInDim S10 ![0] bcast_S1_S10_0) : C F S1 .f32 → C F S10 .f32),
   binary main_call1_v10 main_call1_v9 main_call1_v11 (mulf : C F S10 .f32 → C F S10 .f32 → C F S10 .f32),
   reshape main_call1_v1 main_call1_v12 (rfl : (.f32 : EltTy) = .f32) shapeCasts_S_S1,
   unary main_call1_v12 main_call1_v13 ((broadcastInDim S10 ![0] bcast_S1_S10_0) : C F S1 .f32 → C F S10 .f32),
   binary main_call1_v13 main_call1_v6 main_call1_v14 (mulf : C F S10 .f32 → C F S10 .f32 → C F S10 .f32),
   binary main_call1_v11 main_call1_v14 main_call1_v15 (addf : C F S10 .f32 → C F S10 .f32 → C F S10 .f32),
   unary main_call1_v1 main_call1_v16 ((broadcastInDim S1 ![] bcast_S_S1) : C F S_ .f32 → C F S1 .f32),
   binary main_call1_v15 main_call1_v16 main_v17 ((fun a b => concatenate S11 0 [⟨S10, a⟩, ⟨S1, b⟩] concatenates_S10_S1_S11_d0) : C F S10 .f32 → C F S1 .f32 → C F S11 .f32),
   unary main_v17 main_v18 ((extractStridedSlice S10 ![0] · slices_S11_S10_0) : C F S11 .f32 → C F S10 .f32),
   unary main_v17 main_v19 ((extractStridedSlice S10 ![1] · slices_S11_S10_1) : C F S11 .f32 → C F S10 .f32),
   unary main_v13 main_v20 (uitofp .f32 : C F S1048576 .i1 → C F S1048576 .f32),
   nullary main_cst_7 (constant S_ .f32 0x00000000#32),
   unary main_cst_7 main_v21 (broadcastInDim S1 ![] bcast_S_S1 : C F S_ .f32 → C F S1 .f32)]

def seg0W : List (Ref sig .tc) := [main_cst, main_v0, main_cst_0, main_v1, main_v2, main_v3, main_v4, main_v5, main_v6, main_cst_1, main_v7, main_v8, main_v9, main_v10, main_cst_2, main_v11, main_call0_v0, main_call0_cst, main_call0_c, main_call0_v1_0, main_v12, main_v13, main_v14, main_cst_3, main_v15, main_cst_4, main_v16, main_cst_5, main_cst_6, main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v17, main_v18, main_v19, main_v20, main_cst_7, main_v21]

theorem seg0_writes : (seg0 (F := F)).map HloOp.writes = seg0W.map fun w => {Proc.devRef (τ := τ) .tc w} := rfl

theorem seg0_sub : (seg0 (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., binary_bufs_sub .., unary_bufs_sub .., nullary_bufs_sub .., binary_bufs_sub .., nullary_bufs_sub .., binary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., unary_bufs_sub .., unary_bufs_sub .., nullary_bufs_sub .., unary_bufs_sub ..⟩

theorem seg0_fresh : (seg0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg1 : List (HloOp τ sig (Elt F)) :=
  [unary main_v18 main_v22 ((extractStridedSlice S1 ![0] · slices_S10_S1_0) : C F S10 .f32 → C F S1 .f32),
   reshape main_v22 main_v23 (rfl : (.f32 : EltTy) = .f32) shapeCasts_S1_S_,
   unary main_v23 main_v24 (broadcastInDim S1048576 ![] bcast_S_S1048576 : C F S_ .f32 → C F S1048576 .f32),
   binary main_v11 main_v24 main_v25 (cmpf .ogt : C F S1048576 .f32 → C F S1048576 .f32 → C F S1048576 .i1),
   unary main_v19 main_v26 ((extractStridedSlice S1 ![0] · slices_S10_S1_0) : C F S10 .f32 → C F S1 .f32),
   reshape main_v26 main_v27 (rfl : (.f32 : EltTy) = .f32) shapeCasts_S1_S_,
   unary main_v27 main_v28 (broadcastInDim S1048576 ![] bcast_S_S1048576 : C F S_ .f32 → C F S1048576 .f32),
   binary main_v11 main_v28 main_v29 (cmpf .ole : C F S1048576 .f32 → C F S1048576 .f32 → C F S1048576 .i1),
   binary main_v25 main_v29 main_v30 (andi : C F S1048576 .i1 → C F S1048576 .i1 → C F S1048576 .i1),
   unary main_v30 main_v31 (uitofp .f32 : C F S1048576 .i1 → C F S1048576 .f32),
   nullary main_cst_8 (constant S_ .f32 0x00000000#32),
   binary main_v31 main_cst_8 main_v32 ((fun x v => Host.reduceAdd x v reducesTo_S1048576_S_d0 h_S_) : C F S1048576 .f32 → C F S_ .f32 → C F S_ .f32),
   nullary main_cst_9 (constant S_ .f32 0x49800000#32),
   binary main_v32 main_cst_9 main_v33 (Host.divf : C F S_ .f32 → C F S_ .f32 → C F S_ .f32),
   nullary main_cst_10 (constant S_ .f32 0x3F800000#32),
   binary main_v32 main_cst_10 main_v34 (maximumf : C F S_ .f32 → C F S_ .f32 → C F S_ .f32),
   binary main_v20 main_v31 main_v35 (mulf : C F S1048576 .f32 → C F S1048576 .f32 → C F S1048576 .f32),
   nullary main_cst_11 (constant S_ .f32 0x00000000#32),
   binary main_v35 main_cst_11 main_v36 ((fun x v => Host.reduceAdd x v reducesTo_S1048576_S_d0 h_S_) : C F S1048576 .f32 → C F S_ .f32 → C F S_ .f32),
   binary main_v36 main_v34 main_v37 (Host.divf : C F S_ .f32 → C F S_ .f32 → C F S_ .f32),
   binary main_v11 main_v31 main_v38 (mulf : C F S1048576 .f32 → C F S1048576 .f32 → C F S1048576 .f32),
   nullary main_cst_12 (constant S_ .f32 0x00000000#32),
   binary main_v38 main_cst_12 main_v39 ((fun x v => Host.reduceAdd x v reducesTo_S1048576_S_d0 h_S_) : C F S1048576 .f32 → C F S_ .f32 → C F S_ .f32),
   binary main_v39 main_v34 main_v40 (Host.divf : C F S_ .f32 → C F S_ .f32 → C F S_ .f32),
   binary main_v40 main_v37 main_v41 (subf : C F S_ .f32 → C F S_ .f32 → C F S_ .f32),
   unary main_v41 main_v42 (Host.absf : C F S_ .f32 → C F S_ .f32),
   binary main_v42 main_v33 main_v43 (mulf : C F S_ .f32 → C F S_ .f32 → C F S_ .f32),
   nullary main_cst_13 (constant S_ .f32 0x00000000#32),
   binary main_v32 main_cst_13 main_v44 (cmpf .ogt : C F S_ .f32 → C F S_ .f32 → C F S_ .i1)]

def seg1W : List (Ref sig .tc) := [main_v22, main_v23, main_v24, main_v25, main_v26, main_v27, main_v28, main_v29, main_v30, main_v31, main_cst_8, main_v32, main_cst_9, main_v33, main_cst_10, main_v34, main_v35, main_cst_11, main_v36, main_v37, main_v38, main_cst_12, main_v39, main_v40, main_v41, main_v42, main_v43, main_cst_13, main_v44]

theorem seg1_writes : (seg1 (F := F)).map HloOp.writes = seg1W.map fun w => {Proc.devRef (τ := τ) .tc w} := rfl

theorem seg1_sub : (seg1 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub ..⟩

theorem seg1_fresh : (seg1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

def seg2 : List (HloOp τ sig (Elt F)) :=
  [nullary main_cst_14 (constant S_ .f32 0x00000000#32),
   unary main_cst_14 main_call2_v0 (id : C F S_ .f32 → C F S_ .f32),
   ternary main_v44 main_v43 main_call2_v0 main_v45 (select : C F S_ .i1 → C F S_ .f32 → C F S_ .f32 → C F S_ .f32),
   unary main_v45 main_v46 (broadcastInDim S1 ![] bcast_S_S1 : C F S_ .f32 → C F S1 .f32),
   binary main_v21 main_v46 main_v47 (addf : C F S1 .f32 → C F S1 .f32 → C F S1 .f32)]

def seg2W : List (Ref sig .tc) := [main_cst_14, main_call2_v0, main_v45, main_v46, main_v47]

theorem seg2_writes : (seg2 (F := F)).map HloOp.writes = seg2W.map fun w => {Proc.devRef (τ := τ) .tc w} := rfl

theorem seg2_sub : (seg2 (F := F)).Forall fun op => op.bufs ⊆ tcRefs τ sig :=
  ⟨nullary_bufs_sub .., unary_bufs_sub .., ternary_bufs_sub .., unary_bufs_sub .., binary_bufs_sub ..⟩

theorem seg2_fresh : (seg2 (F := F)).Forall fun op => op.fresh = ∅ :=
  ⟨rfl, rfl, rfl, rfl, rfl⟩

def seg3 : List (HloOp τ sig (Elt F)) :=
  [unary main_v18 main_v48 ((extractStridedSlice S1 ![1] · slices_S10_S1_1) : C F S10 .f32 → C F S1 .f32),
   reshape main_v48 main_v49 (rfl : (.f32 : EltTy) = .f32) shapeCasts_S1_S_,
   unary main_v49 main_v50 (broadcastInDim S1048576 ![] bcast_S_S1048576 : C F S_ .f32 → C F S1048576 .f32),
   binary main_v11 main_v50 main_v51 (cmpf .ogt : C F S1048576 .f32 → C F S1048576 .f32 → C F S1048576 .i1),
   unary main_v19 main_v52 ((extractStridedSlice S1 ![1] · slices_S10_S1_1) : C F S10 .f32 → C F S1 .f32),
   reshape main_v52 main_v53 (rfl : (.f32 : EltTy) = .f32) shapeCasts_S1_S_,
   unary main_v53 main_v54 (broadcastInDim S1048576 ![] bcast_S_S1048576 : C F S_ .f32 → C F S1048576 .f32),
   binary main_v11 main_v54 main_v55 (cmpf .ole : C F S1048576 .f32 → C F S1048576 .f32 → C F S1048576 .i1),
   binary main_v51 main_v55 main_v56 (andi : C F S1048576 .i1 → C F S1048576 .i1 → C F S1048576 .i1),
   unary main_v56 main_v57 (uitofp .f32 : C F S1048576 .i1 → C F S1048576 .f32),
   nullary main_cst_15 (constant S_ .f32 0x00000000#32),
   binary main_v57 main_cst_15 main_v58 ((fun x v => Host.reduceAdd x v reducesTo_S1048576_S_d0 h_S_) : C F S1048576 .f32 → C F S_ .f32 → C F S_ .f32),
   nullary main_cst_16 (constant S_ .f32 0x49800000#32),
   binary main_v58 main_cst_16 main_v59 (Host.divf : C F S_ .f32 → C F S_ .f32 → C F S_ .f32),
   nullary main_cst_17 (constant S_ .f32 0x3F800000#32),
   binary main_v58 main_cst_17 main_v60 (maximumf : C F S_ .f32 → C F S_ .f32 → C F S_ .f32),
   binary main_v20 main_v57 main_v61 (mulf : C F S1048576 .f32 → C F S1048576 .f32 → C F S1048576 .f32),
   nullary main_cst_18 (constant S_ .f32 0x00000000#32),
   binary main_v61 main_cst_18 main_v62 ((fun x v => Host.reduceAdd x v reducesTo_S1048576_S_d0 h_S_) : C F S1048576 .f32 → C F S_ .f32 → C F S_ .f32),
   binary main_v62 main_v60 main_v63 (Host.divf : C F S_ .f32 → C F S_ .f32 → C F S_ .f32),
   binary main_v11 main_v57 main_v64 (mulf : C F S1048576 .f32 → C F S1048576 .f32 → C F S1048576 .f32),
   nullary main_cst_19 (constant S_ .f32 0x00000000#32),
   binary main_v64 main_cst_19 main_v65 ((fun x v => Host.reduceAdd x v reducesTo_S1048576_S_d0 h_S_) : C F S1048576 .f32 → C F S_ .f32 → C F S_ .f32),
   binary main_v65 main_v60 main_v66 (Host.divf : C F S_ .f32 → C F S_ .f32 → C F S_ .f32),
   binary main_v66 main_v63 main_v67 (subf : C F S_ .f32 → C F S_ .f32 → C F S_ .f32),
   unary main_v67 main_v68 (Host.absf : C F S_ .f32 → C F S_ .f32),
   binary main_v68 main_v59 main_v69 (mulf : C F S_ .f32 → C F S_ .f32 → C F S_ .f32),
   nullary main_cst_20 (constant S_ .f32 0x00000000#32),
   binary main_v58 main_cst_20 main_v70 (cmpf .ogt : C F S_ .f32 → C F S_ .f32 → C F S_ .i1),
   nullary main_cst_21 (constant S_ .f32 0x00000000#32),
   unary main_cst_21 main_call3_v0 (id : C F S_ .f32 → C F S_ .f32),
   ternary main_v70 main_v69 main_call3_v0 main_v71 (select : C F S_ .i1 → C F S_ .f32 → C F S_ .f32 → C F S_ .f32),
   unary main_v71 main_v72 (broadcastInDim S1 ![] bcast_S_S1 : C F S_ .f32 → C F S1 .f32),
   binary main_v47 main_v72 main_v73 (addf : C F S1 .f32 → C F S1 .f32 → C F S1 .f32)]

def seg3W : List (Ref sig .tc) := [main_v48, main_v49, main_v50, main_v51, main_v52, main_v53, main_v54, main_v55, main_v56, main_v57, main_cst_15, main_v58, main_cst_16, main_v59, main_cst_17, main_v60, main_v61, main_cst_18, main_v62, main_v63, main_v64, main_cst_19, main_v65, main_v66, main_v67, main_v68, main_v69, main_cst_20, main_v70, main_cst_21, main_call3_v0, main_v71, main_v72, main_v73]

theorem seg3_writes : (seg3 (F := F)).map HloOp.writes = seg3W.map fun w => {Proc.devRef (τ := τ) .tc w} := rfl

theorem seg3_sub : (seg3 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg3_fresh : (seg3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg4 : List (HloOp τ sig (Elt F)) :=
  [unary main_v18 main_v74 ((extractStridedSlice S1 ![2] · slices_S10_S1_2) : C F S10 .f32 → C F S1 .f32),
   reshape main_v74 main_v75 (rfl : (.f32 : EltTy) = .f32) shapeCasts_S1_S_,
   unary main_v75 main_v76 (broadcastInDim S1048576 ![] bcast_S_S1048576 : C F S_ .f32 → C F S1048576 .f32),
   binary main_v11 main_v76 main_v77 (cmpf .ogt : C F S1048576 .f32 → C F S1048576 .f32 → C F S1048576 .i1),
   unary main_v19 main_v78 ((extractStridedSlice S1 ![2] · slices_S10_S1_2) : C F S10 .f32 → C F S1 .f32),
   reshape main_v78 main_v79 (rfl : (.f32 : EltTy) = .f32) shapeCasts_S1_S_,
   unary main_v79 main_v80 (broadcastInDim S1048576 ![] bcast_S_S1048576 : C F S_ .f32 → C F S1048576 .f32),
   binary main_v11 main_v80 main_v81 (cmpf .ole : C F S1048576 .f32 → C F S1048576 .f32 → C F S1048576 .i1),
   binary main_v77 main_v81 main_v82 (andi : C F S1048576 .i1 → C F S1048576 .i1 → C F S1048576 .i1),
   unary main_v82 main_v83 (uitofp .f32 : C F S1048576 .i1 → C F S1048576 .f32),
   nullary main_cst_22 (constant S_ .f32 0x00000000#32),
   binary main_v83 main_cst_22 main_v84 ((fun x v => Host.reduceAdd x v reducesTo_S1048576_S_d0 h_S_) : C F S1048576 .f32 → C F S_ .f32 → C F S_ .f32),
   nullary main_cst_23 (constant S_ .f32 0x49800000#32),
   binary main_v84 main_cst_23 main_v85 (Host.divf : C F S_ .f32 → C F S_ .f32 → C F S_ .f32),
   nullary main_cst_24 (constant S_ .f32 0x3F800000#32),
   binary main_v84 main_cst_24 main_v86 (maximumf : C F S_ .f32 → C F S_ .f32 → C F S_ .f32),
   binary main_v20 main_v83 main_v87 (mulf : C F S1048576 .f32 → C F S1048576 .f32 → C F S1048576 .f32),
   nullary main_cst_25 (constant S_ .f32 0x00000000#32),
   binary main_v87 main_cst_25 main_v88 ((fun x v => Host.reduceAdd x v reducesTo_S1048576_S_d0 h_S_) : C F S1048576 .f32 → C F S_ .f32 → C F S_ .f32),
   binary main_v88 main_v86 main_v89 (Host.divf : C F S_ .f32 → C F S_ .f32 → C F S_ .f32),
   binary main_v11 main_v83 main_v90 (mulf : C F S1048576 .f32 → C F S1048576 .f32 → C F S1048576 .f32),
   nullary main_cst_26 (constant S_ .f32 0x00000000#32),
   binary main_v90 main_cst_26 main_v91 ((fun x v => Host.reduceAdd x v reducesTo_S1048576_S_d0 h_S_) : C F S1048576 .f32 → C F S_ .f32 → C F S_ .f32)]

def seg4W : List (Ref sig .tc) := [main_v74, main_v75, main_v76, main_v77, main_v78, main_v79, main_v80, main_v81, main_v82, main_v83, main_cst_22, main_v84, main_cst_23, main_v85, main_cst_24, main_v86, main_v87, main_cst_25, main_v88, main_v89, main_v90, main_cst_26, main_v91]

theorem seg4_writes : (seg4 (F := F)).map HloOp.writes = seg4W.map fun w => {Proc.devRef (τ := τ) .tc w} := rfl

theorem seg4_sub : (seg4 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub ..⟩

theorem seg4_fresh : (seg4 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

def seg5 : List (HloOp τ sig (Elt F)) :=
  [binary main_v91 main_v86 main_v92 (Host.divf : C F S_ .f32 → C F S_ .f32 → C F S_ .f32),
   binary main_v92 main_v89 main_v93 (subf : C F S_ .f32 → C F S_ .f32 → C F S_ .f32),
   unary main_v93 main_v94 (Host.absf : C F S_ .f32 → C F S_ .f32),
   binary main_v94 main_v85 main_v95 (mulf : C F S_ .f32 → C F S_ .f32 → C F S_ .f32),
   nullary main_cst_27 (constant S_ .f32 0x00000000#32),
   binary main_v84 main_cst_27 main_v96 (cmpf .ogt : C F S_ .f32 → C F S_ .f32 → C F S_ .i1),
   nullary main_cst_28 (constant S_ .f32 0x00000000#32),
   unary main_cst_28 main_call4_v0 (id : C F S_ .f32 → C F S_ .f32),
   ternary main_v96 main_v95 main_call4_v0 main_v97 (select : C F S_ .i1 → C F S_ .f32 → C F S_ .f32 → C F S_ .f32),
   unary main_v97 main_v98 (broadcastInDim S1 ![] bcast_S_S1 : C F S_ .f32 → C F S1 .f32),
   binary main_v73 main_v98 main_v99 (addf : C F S1 .f32 → C F S1 .f32 → C F S1 .f32)]

def seg5W : List (Ref sig .tc) := [main_v92, main_v93, main_v94, main_v95, main_cst_27, main_v96, main_cst_28, main_call4_v0, main_v97, main_v98, main_v99]

theorem seg5_writes : (seg5 (F := F)).map HloOp.writes = seg5W.map fun w => {Proc.devRef (τ := τ) .tc w} := rfl

theorem seg5_sub : (seg5 (F := F)).Forall fun op => op.bufs ⊆ tcRefs τ sig :=
  ⟨binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg5_fresh : (seg5 (F := F)).Forall fun op => op.fresh = ∅ :=
  ⟨rfl, rfl, rfl, rfl, rfl, rfl, rfl, rfl, rfl, rfl, rfl⟩

def seg6 : List (HloOp τ sig (Elt F)) :=
  [unary main_v18 main_v100 ((extractStridedSlice S1 ![3] · slices_S10_S1_3) : C F S10 .f32 → C F S1 .f32),
   reshape main_v100 main_v101 (rfl : (.f32 : EltTy) = .f32) shapeCasts_S1_S_,
   unary main_v101 main_v102 (broadcastInDim S1048576 ![] bcast_S_S1048576 : C F S_ .f32 → C F S1048576 .f32),
   binary main_v11 main_v102 main_v103 (cmpf .ogt : C F S1048576 .f32 → C F S1048576 .f32 → C F S1048576 .i1),
   unary main_v19 main_v104 ((extractStridedSlice S1 ![3] · slices_S10_S1_3) : C F S10 .f32 → C F S1 .f32),
   reshape main_v104 main_v105 (rfl : (.f32 : EltTy) = .f32) shapeCasts_S1_S_,
   unary main_v105 main_v106 (broadcastInDim S1048576 ![] bcast_S_S1048576 : C F S_ .f32 → C F S1048576 .f32),
   binary main_v11 main_v106 main_v107 (cmpf .ole : C F S1048576 .f32 → C F S1048576 .f32 → C F S1048576 .i1),
   binary main_v103 main_v107 main_v108 (andi : C F S1048576 .i1 → C F S1048576 .i1 → C F S1048576 .i1),
   unary main_v108 main_v109 (uitofp .f32 : C F S1048576 .i1 → C F S1048576 .f32),
   nullary main_cst_29 (constant S_ .f32 0x00000000#32),
   binary main_v109 main_cst_29 main_v110 ((fun x v => Host.reduceAdd x v reducesTo_S1048576_S_d0 h_S_) : C F S1048576 .f32 → C F S_ .f32 → C F S_ .f32),
   nullary main_cst_30 (constant S_ .f32 0x49800000#32),
   binary main_v110 main_cst_30 main_v111 (Host.divf : C F S_ .f32 → C F S_ .f32 → C F S_ .f32),
   nullary main_cst_31 (constant S_ .f32 0x3F800000#32),
   binary main_v110 main_cst_31 main_v112 (maximumf : C F S_ .f32 → C F S_ .f32 → C F S_ .f32),
   binary main_v20 main_v109 main_v113 (mulf : C F S1048576 .f32 → C F S1048576 .f32 → C F S1048576 .f32),
   nullary main_cst_32 (constant S_ .f32 0x00000000#32),
   binary main_v113 main_cst_32 main_v114 ((fun x v => Host.reduceAdd x v reducesTo_S1048576_S_d0 h_S_) : C F S1048576 .f32 → C F S_ .f32 → C F S_ .f32),
   binary main_v114 main_v112 main_v115 (Host.divf : C F S_ .f32 → C F S_ .f32 → C F S_ .f32),
   binary main_v11 main_v109 main_v116 (mulf : C F S1048576 .f32 → C F S1048576 .f32 → C F S1048576 .f32),
   nullary main_cst_33 (constant S_ .f32 0x00000000#32),
   binary main_v116 main_cst_33 main_v117 ((fun x v => Host.reduceAdd x v reducesTo_S1048576_S_d0 h_S_) : C F S1048576 .f32 → C F S_ .f32 → C F S_ .f32),
   binary main_v117 main_v112 main_v118 (Host.divf : C F S_ .f32 → C F S_ .f32 → C F S_ .f32),
   binary main_v118 main_v115 main_v119 (subf : C F S_ .f32 → C F S_ .f32 → C F S_ .f32),
   unary main_v119 main_v120 (Host.absf : C F S_ .f32 → C F S_ .f32),
   binary main_v120 main_v111 main_v121 (mulf : C F S_ .f32 → C F S_ .f32 → C F S_ .f32),
   nullary main_cst_34 (constant S_ .f32 0x00000000#32),
   binary main_v110 main_cst_34 main_v122 (cmpf .ogt : C F S_ .f32 → C F S_ .f32 → C F S_ .i1),
   nullary main_cst_35 (constant S_ .f32 0x00000000#32),
   unary main_cst_35 main_call5_v0 (id : C F S_ .f32 → C F S_ .f32),
   ternary main_v122 main_v121 main_call5_v0 main_v123 (select : C F S_ .i1 → C F S_ .f32 → C F S_ .f32 → C F S_ .f32),
   unary main_v123 main_v124 (broadcastInDim S1 ![] bcast_S_S1 : C F S_ .f32 → C F S1 .f32),
   binary main_v99 main_v124 main_v125 (addf : C F S1 .f32 → C F S1 .f32 → C F S1 .f32)]

def seg6W : List (Ref sig .tc) := [main_v100, main_v101, main_v102, main_v103, main_v104, main_v105, main_v106, main_v107, main_v108, main_v109, main_cst_29, main_v110, main_cst_30, main_v111, main_cst_31, main_v112, main_v113, main_cst_32, main_v114, main_v115, main_v116, main_cst_33, main_v117, main_v118, main_v119, main_v120, main_v121, main_cst_34, main_v122, main_cst_35, main_call5_v0, main_v123, main_v124, main_v125]

theorem seg6_writes : (seg6 (F := F)).map HloOp.writes = seg6W.map fun w => {Proc.devRef (τ := τ) .tc w} := rfl

theorem seg6_sub : (seg6 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg6_fresh : (seg6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg7 : List (HloOp τ sig (Elt F)) :=
  [unary main_v18 main_v126 ((extractStridedSlice S1 ![4] · slices_S10_S1_4) : C F S10 .f32 → C F S1 .f32),
   reshape main_v126 main_v127 (rfl : (.f32 : EltTy) = .f32) shapeCasts_S1_S_,
   unary main_v127 main_v128 (broadcastInDim S1048576 ![] bcast_S_S1048576 : C F S_ .f32 → C F S1048576 .f32),
   binary main_v11 main_v128 main_v129 (cmpf .ogt : C F S1048576 .f32 → C F S1048576 .f32 → C F S1048576 .i1),
   unary main_v19 main_v130 ((extractStridedSlice S1 ![4] · slices_S10_S1_4) : C F S10 .f32 → C F S1 .f32),
   reshape main_v130 main_v131 (rfl : (.f32 : EltTy) = .f32) shapeCasts_S1_S_,
   unary main_v131 main_v132 (broadcastInDim S1048576 ![] bcast_S_S1048576 : C F S_ .f32 → C F S1048576 .f32),
   binary main_v11 main_v132 main_v133 (cmpf .ole : C F S1048576 .f32 → C F S1048576 .f32 → C F S1048576 .i1),
   binary main_v129 main_v133 main_v134 (andi : C F S1048576 .i1 → C F S1048576 .i1 → C F S1048576 .i1),
   unary main_v134 main_v135 (uitofp .f32 : C F S1048576 .i1 → C F S1048576 .f32),
   nullary main_cst_36 (constant S_ .f32 0x00000000#32),
   binary main_v135 main_cst_36 main_v136 ((fun x v => Host.reduceAdd x v reducesTo_S1048576_S_d0 h_S_) : C F S1048576 .f32 → C F S_ .f32 → C F S_ .f32),
   nullary main_cst_37 (constant S_ .f32 0x49800000#32),
   binary main_v136 main_cst_37 main_v137 (Host.divf : C F S_ .f32 → C F S_ .f32 → C F S_ .f32),
   nullary main_cst_38 (constant S_ .f32 0x3F800000#32),
   binary main_v136 main_cst_38 main_v138 (maximumf : C F S_ .f32 → C F S_ .f32 → C F S_ .f32),
   binary main_v20 main_v135 main_v139 (mulf : C F S1048576 .f32 → C F S1048576 .f32 → C F S1048576 .f32)]

def seg7W : List (Ref sig .tc) := [main_v126, main_v127, main_v128, main_v129, main_v130, main_v131, main_v132, main_v133, main_v134, main_v135, main_cst_36, main_v136, main_cst_37, main_v137, main_cst_38, main_v138, main_v139]

theorem seg7_writes : (seg7 (F := F)).map HloOp.writes = seg7W.map fun w => {Proc.devRef (τ := τ) .tc w} := rfl

theorem seg7_sub : (seg7 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub ..⟩

theorem seg7_fresh : (seg7 (F := F)).Forall fun op => op.fresh = ∅ :=
  ⟨rfl, rfl, rfl, rfl, rfl, rfl, rfl, rfl, rfl, rfl, rfl, rfl, rfl, rfl, rfl, rfl, rfl⟩

def seg8 : List (HloOp τ sig (Elt F)) :=
  [nullary main_cst_39 (constant S_ .f32 0x00000000#32),
   binary main_v139 main_cst_39 main_v140 ((fun x v => Host.reduceAdd x v reducesTo_S1048576_S_d0 h_S_) : C F S1048576 .f32 → C F S_ .f32 → C F S_ .f32),
   binary main_v140 main_v138 main_v141 (Host.divf : C F S_ .f32 → C F S_ .f32 → C F S_ .f32),
   binary main_v11 main_v135 main_v142 (mulf : C F S1048576 .f32 → C F S1048576 .f32 → C F S1048576 .f32),
   nullary main_cst_40 (constant S_ .f32 0x00000000#32),
   binary main_v142 main_cst_40 main_v143 ((fun x v => Host.reduceAdd x v reducesTo_S1048576_S_d0 h_S_) : C F S1048576 .f32 → C F S_ .f32 → C F S_ .f32),
   binary main_v143 main_v138 main_v144 (Host.divf : C F S_ .f32 → C F S_ .f32 → C F S_ .f32),
   binary main_v144 main_v141 main_v145 (subf : C F S_ .f32 → C F S_ .f32 → C F S_ .f32),
   unary main_v145 main_v146 (Host.absf : C F S_ .f32 → C F S_ .f32),
   binary main_v146 main_v137 main_v147 (mulf : C F S_ .f32 → C F S_ .f32 → C F S_ .f32),
   nullary main_cst_41 (constant S_ .f32 0x00000000#32),
   binary main_v136 main_cst_41 main_v148 (cmpf .ogt : C F S_ .f32 → C F S_ .f32 → C F S_ .i1),
   nullary main_cst_42 (constant S_ .f32 0x00000000#32),
   unary main_cst_42 main_call6_v0 (id : C F S_ .f32 → C F S_ .f32),
   ternary main_v148 main_v147 main_call6_v0 main_v149 (select : C F S_ .i1 → C F S_ .f32 → C F S_ .f32 → C F S_ .f32),
   unary main_v149 main_v150 (broadcastInDim S1 ![] bcast_S_S1 : C F S_ .f32 → C F S1 .f32),
   binary main_v125 main_v150 main_v151 (addf : C F S1 .f32 → C F S1 .f32 → C F S1 .f32)]

def seg8W : List (Ref sig .tc) := [main_cst_39, main_v140, main_v141, main_v142, main_cst_40, main_v143, main_v144, main_v145, main_v146, main_v147, main_cst_41, main_v148, main_cst_42, main_call6_v0, main_v149, main_v150, main_v151]

theorem seg8_writes : (seg8 (F := F)).map HloOp.writes = seg8W.map fun w => {Proc.devRef (τ := τ) .tc w} := rfl

theorem seg8_sub : (seg8 (F := F)).Forall fun op => op.bufs ⊆ tcRefs τ sig :=
  ⟨nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg8_fresh : (seg8 (F := F)).Forall fun op => op.fresh = ∅ :=
  ⟨rfl, rfl, rfl, rfl, rfl, rfl, rfl, rfl, rfl, rfl, rfl, rfl, rfl, rfl, rfl, rfl, rfl⟩

def seg9 : List (HloOp τ sig (Elt F)) :=
  [unary main_v18 main_v152 ((extractStridedSlice S1 ![5] · slices_S10_S1_5) : C F S10 .f32 → C F S1 .f32),
   reshape main_v152 main_v153 (rfl : (.f32 : EltTy) = .f32) shapeCasts_S1_S_,
   unary main_v153 main_v154 (broadcastInDim S1048576 ![] bcast_S_S1048576 : C F S_ .f32 → C F S1048576 .f32),
   binary main_v11 main_v154 main_v155 (cmpf .ogt : C F S1048576 .f32 → C F S1048576 .f32 → C F S1048576 .i1),
   unary main_v19 main_v156 ((extractStridedSlice S1 ![5] · slices_S10_S1_5) : C F S10 .f32 → C F S1 .f32),
   reshape main_v156 main_v157 (rfl : (.f32 : EltTy) = .f32) shapeCasts_S1_S_,
   unary main_v157 main_v158 (broadcastInDim S1048576 ![] bcast_S_S1048576 : C F S_ .f32 → C F S1048576 .f32),
   binary main_v11 main_v158 main_v159 (cmpf .ole : C F S1048576 .f32 → C F S1048576 .f32 → C F S1048576 .i1),
   binary main_v155 main_v159 main_v160 (andi : C F S1048576 .i1 → C F S1048576 .i1 → C F S1048576 .i1),
   unary main_v160 main_v161 (uitofp .f32 : C F S1048576 .i1 → C F S1048576 .f32),
   nullary main_cst_43 (constant S_ .f32 0x00000000#32),
   binary main_v161 main_cst_43 main_v162 ((fun x v => Host.reduceAdd x v reducesTo_S1048576_S_d0 h_S_) : C F S1048576 .f32 → C F S_ .f32 → C F S_ .f32),
   nullary main_cst_44 (constant S_ .f32 0x49800000#32),
   binary main_v162 main_cst_44 main_v163 (Host.divf : C F S_ .f32 → C F S_ .f32 → C F S_ .f32),
   nullary main_cst_45 (constant S_ .f32 0x3F800000#32),
   binary main_v162 main_cst_45 main_v164 (maximumf : C F S_ .f32 → C F S_ .f32 → C F S_ .f32),
   binary main_v20 main_v161 main_v165 (mulf : C F S1048576 .f32 → C F S1048576 .f32 → C F S1048576 .f32),
   nullary main_cst_46 (constant S_ .f32 0x00000000#32),
   binary main_v165 main_cst_46 main_v166 ((fun x v => Host.reduceAdd x v reducesTo_S1048576_S_d0 h_S_) : C F S1048576 .f32 → C F S_ .f32 → C F S_ .f32),
   binary main_v166 main_v164 main_v167 (Host.divf : C F S_ .f32 → C F S_ .f32 → C F S_ .f32),
   binary main_v11 main_v161 main_v168 (mulf : C F S1048576 .f32 → C F S1048576 .f32 → C F S1048576 .f32),
   nullary main_cst_47 (constant S_ .f32 0x00000000#32),
   binary main_v168 main_cst_47 main_v169 ((fun x v => Host.reduceAdd x v reducesTo_S1048576_S_d0 h_S_) : C F S1048576 .f32 → C F S_ .f32 → C F S_ .f32),
   binary main_v169 main_v164 main_v170 (Host.divf : C F S_ .f32 → C F S_ .f32 → C F S_ .f32),
   binary main_v170 main_v167 main_v171 (subf : C F S_ .f32 → C F S_ .f32 → C F S_ .f32),
   unary main_v171 main_v172 (Host.absf : C F S_ .f32 → C F S_ .f32),
   binary main_v172 main_v163 main_v173 (mulf : C F S_ .f32 → C F S_ .f32 → C F S_ .f32),
   nullary main_cst_48 (constant S_ .f32 0x00000000#32),
   binary main_v162 main_cst_48 main_v174 (cmpf .ogt : C F S_ .f32 → C F S_ .f32 → C F S_ .i1),
   nullary main_cst_49 (constant S_ .f32 0x00000000#32),
   unary main_cst_49 main_call7_v0 (id : C F S_ .f32 → C F S_ .f32),
   ternary main_v174 main_v173 main_call7_v0 main_v175 (select : C F S_ .i1 → C F S_ .f32 → C F S_ .f32 → C F S_ .f32),
   unary main_v175 main_v176 (broadcastInDim S1 ![] bcast_S_S1 : C F S_ .f32 → C F S1 .f32),
   binary main_v151 main_v176 main_v177 (addf : C F S1 .f32 → C F S1 .f32 → C F S1 .f32)]

def seg9W : List (Ref sig .tc) := [main_v152, main_v153, main_v154, main_v155, main_v156, main_v157, main_v158, main_v159, main_v160, main_v161, main_cst_43, main_v162, main_cst_44, main_v163, main_cst_45, main_v164, main_v165, main_cst_46, main_v166, main_v167, main_v168, main_cst_47, main_v169, main_v170, main_v171, main_v172, main_v173, main_cst_48, main_v174, main_cst_49, main_call7_v0, main_v175, main_v176, main_v177]

theorem seg9_writes : (seg9 (F := F)).map HloOp.writes = seg9W.map fun w => {Proc.devRef (τ := τ) .tc w} := rfl

theorem seg9_sub : (seg9 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg9_fresh : (seg9 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg10 : List (HloOp τ sig (Elt F)) :=
  [unary main_v18 main_v178 ((extractStridedSlice S1 ![6] · slices_S10_S1_6) : C F S10 .f32 → C F S1 .f32),
   reshape main_v178 main_v179 (rfl : (.f32 : EltTy) = .f32) shapeCasts_S1_S_,
   unary main_v179 main_v180 (broadcastInDim S1048576 ![] bcast_S_S1048576 : C F S_ .f32 → C F S1048576 .f32),
   binary main_v11 main_v180 main_v181 (cmpf .ogt : C F S1048576 .f32 → C F S1048576 .f32 → C F S1048576 .i1),
   unary main_v19 main_v182 ((extractStridedSlice S1 ![6] · slices_S10_S1_6) : C F S10 .f32 → C F S1 .f32),
   reshape main_v182 main_v183 (rfl : (.f32 : EltTy) = .f32) shapeCasts_S1_S_,
   unary main_v183 main_v184 (broadcastInDim S1048576 ![] bcast_S_S1048576 : C F S_ .f32 → C F S1048576 .f32),
   binary main_v11 main_v184 main_v185 (cmpf .ole : C F S1048576 .f32 → C F S1048576 .f32 → C F S1048576 .i1),
   binary main_v181 main_v185 main_v186 (andi : C F S1048576 .i1 → C F S1048576 .i1 → C F S1048576 .i1),
   unary main_v186 main_v187 (uitofp .f32 : C F S1048576 .i1 → C F S1048576 .f32),
   nullary main_cst_50 (constant S_ .f32 0x00000000#32)]

def seg10W : List (Ref sig .tc) := [main_v178, main_v179, main_v180, main_v181, main_v182, main_v183, main_v184, main_v185, main_v186, main_v187, main_cst_50]

theorem seg10_writes : (seg10 (F := F)).map HloOp.writes = seg10W.map fun w => {Proc.devRef (τ := τ) .tc w} := rfl

theorem seg10_sub : (seg10 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub ..⟩

theorem seg10_fresh : (seg10 (F := F)).Forall fun op => op.fresh = ∅ :=
  ⟨rfl, rfl, rfl, rfl, rfl, rfl, rfl, rfl, rfl, rfl, rfl⟩

def seg11 : List (HloOp τ sig (Elt F)) :=
  [binary main_v187 main_cst_50 main_v188 ((fun x v => Host.reduceAdd x v reducesTo_S1048576_S_d0 h_S_) : C F S1048576 .f32 → C F S_ .f32 → C F S_ .f32),
   nullary main_cst_51 (constant S_ .f32 0x49800000#32),
   binary main_v188 main_cst_51 main_v189 (Host.divf : C F S_ .f32 → C F S_ .f32 → C F S_ .f32),
   nullary main_cst_52 (constant S_ .f32 0x3F800000#32),
   binary main_v188 main_cst_52 main_v190 (maximumf : C F S_ .f32 → C F S_ .f32 → C F S_ .f32),
   binary main_v20 main_v187 main_v191 (mulf : C F S1048576 .f32 → C F S1048576 .f32 → C F S1048576 .f32),
   nullary main_cst_53 (constant S_ .f32 0x00000000#32),
   binary main_v191 main_cst_53 main_v192 ((fun x v => Host.reduceAdd x v reducesTo_S1048576_S_d0 h_S_) : C F S1048576 .f32 → C F S_ .f32 → C F S_ .f32),
   binary main_v192 main_v190 main_v193 (Host.divf : C F S_ .f32 → C F S_ .f32 → C F S_ .f32),
   binary main_v11 main_v187 main_v194 (mulf : C F S1048576 .f32 → C F S1048576 .f32 → C F S1048576 .f32),
   nullary main_cst_54 (constant S_ .f32 0x00000000#32),
   binary main_v194 main_cst_54 main_v195 ((fun x v => Host.reduceAdd x v reducesTo_S1048576_S_d0 h_S_) : C F S1048576 .f32 → C F S_ .f32 → C F S_ .f32),
   binary main_v195 main_v190 main_v196 (Host.divf : C F S_ .f32 → C F S_ .f32 → C F S_ .f32),
   binary main_v196 main_v193 main_v197 (subf : C F S_ .f32 → C F S_ .f32 → C F S_ .f32),
   unary main_v197 main_v198 (Host.absf : C F S_ .f32 → C F S_ .f32),
   binary main_v198 main_v189 main_v199 (mulf : C F S_ .f32 → C F S_ .f32 → C F S_ .f32),
   nullary main_cst_55 (constant S_ .f32 0x00000000#32),
   binary main_v188 main_cst_55 main_v200 (cmpf .ogt : C F S_ .f32 → C F S_ .f32 → C F S_ .i1),
   nullary main_cst_56 (constant S_ .f32 0x00000000#32),
   unary main_cst_56 main_call8_v0 (id : C F S_ .f32 → C F S_ .f32),
   ternary main_v200 main_v199 main_call8_v0 main_v201 (select : C F S_ .i1 → C F S_ .f32 → C F S_ .f32 → C F S_ .f32),
   unary main_v201 main_v202 (broadcastInDim S1 ![] bcast_S_S1 : C F S_ .f32 → C F S1 .f32),
   binary main_v177 main_v202 main_v203 (addf : C F S1 .f32 → C F S1 .f32 → C F S1 .f32)]

def seg11W : List (Ref sig .tc) := [main_v188, main_cst_51, main_v189, main_cst_52, main_v190, main_v191, main_cst_53, main_v192, main_v193, main_v194, main_cst_54, main_v195, main_v196, main_v197, main_v198, main_v199, main_cst_55, main_v200, main_cst_56, main_call8_v0, main_v201, main_v202, main_v203]

theorem seg11_writes : (seg11 (F := F)).map HloOp.writes = seg11W.map fun w => {Proc.devRef (τ := τ) .tc w} := rfl

theorem seg11_sub : (seg11 (F := F)).Forall fun op => op.bufs ⊆ tcRefs τ sig :=
  ⟨binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg11_fresh : (seg11 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

def seg12 : List (HloOp τ sig (Elt F)) :=
  [unary main_v18 main_v204 ((extractStridedSlice S1 ![7] · slices_S10_S1_7) : C F S10 .f32 → C F S1 .f32),
   reshape main_v204 main_v205 (rfl : (.f32 : EltTy) = .f32) shapeCasts_S1_S_,
   unary main_v205 main_v206 (broadcastInDim S1048576 ![] bcast_S_S1048576 : C F S_ .f32 → C F S1048576 .f32),
   binary main_v11 main_v206 main_v207 (cmpf .ogt : C F S1048576 .f32 → C F S1048576 .f32 → C F S1048576 .i1),
   unary main_v19 main_v208 ((extractStridedSlice S1 ![7] · slices_S10_S1_7) : C F S10 .f32 → C F S1 .f32),
   reshape main_v208 main_v209 (rfl : (.f32 : EltTy) = .f32) shapeCasts_S1_S_,
   unary main_v209 main_v210 (broadcastInDim S1048576 ![] bcast_S_S1048576 : C F S_ .f32 → C F S1048576 .f32),
   binary main_v11 main_v210 main_v211 (cmpf .ole : C F S1048576 .f32 → C F S1048576 .f32 → C F S1048576 .i1),
   binary main_v207 main_v211 main_v212 (andi : C F S1048576 .i1 → C F S1048576 .i1 → C F S1048576 .i1),
   unary main_v212 main_v213 (uitofp .f32 : C F S1048576 .i1 → C F S1048576 .f32),
   nullary main_cst_57 (constant S_ .f32 0x00000000#32),
   binary main_v213 main_cst_57 main_v214 ((fun x v => Host.reduceAdd x v reducesTo_S1048576_S_d0 h_S_) : C F S1048576 .f32 → C F S_ .f32 → C F S_ .f32),
   nullary main_cst_58 (constant S_ .f32 0x49800000#32),
   binary main_v214 main_cst_58 main_v215 (Host.divf : C F S_ .f32 → C F S_ .f32 → C F S_ .f32),
   nullary main_cst_59 (constant S_ .f32 0x3F800000#32),
   binary main_v214 main_cst_59 main_v216 (maximumf : C F S_ .f32 → C F S_ .f32 → C F S_ .f32),
   binary main_v20 main_v213 main_v217 (mulf : C F S1048576 .f32 → C F S1048576 .f32 → C F S1048576 .f32),
   nullary main_cst_60 (constant S_ .f32 0x00000000#32),
   binary main_v217 main_cst_60 main_v218 ((fun x v => Host.reduceAdd x v reducesTo_S1048576_S_d0 h_S_) : C F S1048576 .f32 → C F S_ .f32 → C F S_ .f32),
   binary main_v218 main_v216 main_v219 (Host.divf : C F S_ .f32 → C F S_ .f32 → C F S_ .f32),
   binary main_v11 main_v213 main_v220 (mulf : C F S1048576 .f32 → C F S1048576 .f32 → C F S1048576 .f32),
   nullary main_cst_61 (constant S_ .f32 0x00000000#32),
   binary main_v220 main_cst_61 main_v221 ((fun x v => Host.reduceAdd x v reducesTo_S1048576_S_d0 h_S_) : C F S1048576 .f32 → C F S_ .f32 → C F S_ .f32),
   binary main_v221 main_v216 main_v222 (Host.divf : C F S_ .f32 → C F S_ .f32 → C F S_ .f32),
   binary main_v222 main_v219 main_v223 (subf : C F S_ .f32 → C F S_ .f32 → C F S_ .f32),
   unary main_v223 main_v224 (Host.absf : C F S_ .f32 → C F S_ .f32),
   binary main_v224 main_v215 main_v225 (mulf : C F S_ .f32 → C F S_ .f32 → C F S_ .f32),
   nullary main_cst_62 (constant S_ .f32 0x00000000#32),
   binary main_v214 main_cst_62 main_v226 (cmpf .ogt : C F S_ .f32 → C F S_ .f32 → C F S_ .i1),
   nullary main_cst_63 (constant S_ .f32 0x00000000#32),
   unary main_cst_63 main_call9_v0 (id : C F S_ .f32 → C F S_ .f32),
   ternary main_v226 main_v225 main_call9_v0 main_v227 (select : C F S_ .i1 → C F S_ .f32 → C F S_ .f32 → C F S_ .f32),
   unary main_v227 main_v228 (broadcastInDim S1 ![] bcast_S_S1 : C F S_ .f32 → C F S1 .f32),
   binary main_v203 main_v228 main_v229 (addf : C F S1 .f32 → C F S1 .f32 → C F S1 .f32)]

def seg12W : List (Ref sig .tc) := [main_v204, main_v205, main_v206, main_v207, main_v208, main_v209, main_v210, main_v211, main_v212, main_v213, main_cst_57, main_v214, main_cst_58, main_v215, main_cst_59, main_v216, main_v217, main_cst_60, main_v218, main_v219, main_v220, main_cst_61, main_v221, main_v222, main_v223, main_v224, main_v225, main_cst_62, main_v226, main_cst_63, main_call9_v0, main_v227, main_v228, main_v229]

theorem seg12_writes : (seg12 (F := F)).map HloOp.writes = seg12W.map fun w => {Proc.devRef (τ := τ) .tc w} := rfl

theorem seg12_sub : (seg12 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg12_fresh : (seg12 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg13 : List (HloOp τ sig (Elt F)) :=
  [unary main_v18 main_v230 ((extractStridedSlice S1 ![8] · slices_S10_S1_8) : C F S10 .f32 → C F S1 .f32),
   reshape main_v230 main_v231 (rfl : (.f32 : EltTy) = .f32) shapeCasts_S1_S_,
   unary main_v231 main_v232 (broadcastInDim S1048576 ![] bcast_S_S1048576 : C F S_ .f32 → C F S1048576 .f32),
   binary main_v11 main_v232 main_v233 (cmpf .ogt : C F S1048576 .f32 → C F S1048576 .f32 → C F S1048576 .i1),
   unary main_v19 main_v234 ((extractStridedSlice S1 ![8] · slices_S10_S1_8) : C F S10 .f32 → C F S1 .f32)]

def seg13W : List (Ref sig .tc) := [main_v230, main_v231, main_v232, main_v233, main_v234]

theorem seg13_writes : (seg13 (F := F)).map HloOp.writes = seg13W.map fun w => {Proc.devRef (τ := τ) .tc w} := rfl

theorem seg13_sub : (seg13 (F := F)).Forall fun op => op.bufs ⊆ tcRefs τ sig :=
  ⟨unary_bufs_sub .., reshape_bufs_sub .., unary_bufs_sub .., binary_bufs_sub .., unary_bufs_sub ..⟩

theorem seg13_fresh : (seg13 (F := F)).Forall fun op => op.fresh = ∅ :=
  ⟨rfl, rfl, rfl, rfl, rfl⟩

def seg14 : List (HloOp τ sig (Elt F)) :=
  [reshape main_v234 main_v235 (rfl : (.f32 : EltTy) = .f32) shapeCasts_S1_S_,
   unary main_v235 main_v236 (broadcastInDim S1048576 ![] bcast_S_S1048576 : C F S_ .f32 → C F S1048576 .f32),
   binary main_v11 main_v236 main_v237 (cmpf .ole : C F S1048576 .f32 → C F S1048576 .f32 → C F S1048576 .i1),
   binary main_v233 main_v237 main_v238 (andi : C F S1048576 .i1 → C F S1048576 .i1 → C F S1048576 .i1),
   unary main_v238 main_v239 (uitofp .f32 : C F S1048576 .i1 → C F S1048576 .f32),
   nullary main_cst_64 (constant S_ .f32 0x00000000#32),
   binary main_v239 main_cst_64 main_v240 ((fun x v => Host.reduceAdd x v reducesTo_S1048576_S_d0 h_S_) : C F S1048576 .f32 → C F S_ .f32 → C F S_ .f32),
   nullary main_cst_65 (constant S_ .f32 0x49800000#32),
   binary main_v240 main_cst_65 main_v241 (Host.divf : C F S_ .f32 → C F S_ .f32 → C F S_ .f32),
   nullary main_cst_66 (constant S_ .f32 0x3F800000#32),
   binary main_v240 main_cst_66 main_v242 (maximumf : C F S_ .f32 → C F S_ .f32 → C F S_ .f32),
   binary main_v20 main_v239 main_v243 (mulf : C F S1048576 .f32 → C F S1048576 .f32 → C F S1048576 .f32),
   nullary main_cst_67 (constant S_ .f32 0x00000000#32),
   binary main_v243 main_cst_67 main_v244 ((fun x v => Host.reduceAdd x v reducesTo_S1048576_S_d0 h_S_) : C F S1048576 .f32 → C F S_ .f32 → C F S_ .f32),
   binary main_v244 main_v242 main_v245 (Host.divf : C F S_ .f32 → C F S_ .f32 → C F S_ .f32),
   binary main_v11 main_v239 main_v246 (mulf : C F S1048576 .f32 → C F S1048576 .f32 → C F S1048576 .f32),
   nullary main_cst_68 (constant S_ .f32 0x00000000#32),
   binary main_v246 main_cst_68 main_v247 ((fun x v => Host.reduceAdd x v reducesTo_S1048576_S_d0 h_S_) : C F S1048576 .f32 → C F S_ .f32 → C F S_ .f32),
   binary main_v247 main_v242 main_v248 (Host.divf : C F S_ .f32 → C F S_ .f32 → C F S_ .f32),
   binary main_v248 main_v245 main_v249 (subf : C F S_ .f32 → C F S_ .f32 → C F S_ .f32),
   unary main_v249 main_v250 (Host.absf : C F S_ .f32 → C F S_ .f32),
   binary main_v250 main_v241 main_v251 (mulf : C F S_ .f32 → C F S_ .f32 → C F S_ .f32),
   nullary main_cst_69 (constant S_ .f32 0x00000000#32),
   binary main_v240 main_cst_69 main_v252 (cmpf .ogt : C F S_ .f32 → C F S_ .f32 → C F S_ .i1),
   nullary main_cst_70 (constant S_ .f32 0x00000000#32),
   unary main_cst_70 main_call10_v0 (id : C F S_ .f32 → C F S_ .f32),
   ternary main_v252 main_v251 main_call10_v0 main_v253 (select : C F S_ .i1 → C F S_ .f32 → C F S_ .f32 → C F S_ .f32),
   unary main_v253 main_v254 (broadcastInDim S1 ![] bcast_S_S1 : C F S_ .f32 → C F S1 .f32),
   binary main_v229 main_v254 main_v255 (addf : C F S1 .f32 → C F S1 .f32 → C F S1 .f32)]

def seg14W : List (Ref sig .tc) := [main_v235, main_v236, main_v237, main_v238, main_v239, main_cst_64, main_v240, main_cst_65, main_v241, main_cst_66, main_v242, main_v243, main_cst_67, main_v244, main_v245, main_v246, main_cst_68, main_v247, main_v248, main_v249, main_v250, main_v251, main_cst_69, main_v252, main_cst_70, main_call10_v0, main_v253, main_v254, main_v255]

theorem seg14_writes : (seg14 (F := F)).map HloOp.writes = seg14W.map fun w => {Proc.devRef (τ := τ) .tc w} := rfl

theorem seg14_sub : (seg14 (F := F)).Forall fun op => op.bufs ⊆ tcRefs τ sig :=
  ⟨reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩

theorem seg14_fresh : (seg14 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

def seg15 : List (HloOp τ sig (Elt F)) :=
  [unary main_v18 main_v256 ((extractStridedSlice S1 ![9] · slices_S10_S1_9) : C F S10 .f32 → C F S1 .f32),
   reshape main_v256 main_v257 (rfl : (.f32 : EltTy) = .f32) shapeCasts_S1_S_,
   unary main_v257 main_v258 (broadcastInDim S1048576 ![] bcast_S_S1048576 : C F S_ .f32 → C F S1048576 .f32),
   binary main_v11 main_v258 main_v259 (cmpf .ogt : C F S1048576 .f32 → C F S1048576 .f32 → C F S1048576 .i1),
   unary main_v19 main_v260 ((extractStridedSlice S1 ![9] · slices_S10_S1_9) : C F S10 .f32 → C F S1 .f32),
   reshape main_v260 main_v261 (rfl : (.f32 : EltTy) = .f32) shapeCasts_S1_S_,
   unary main_v261 main_v262 (broadcastInDim S1048576 ![] bcast_S_S1048576 : C F S_ .f32 → C F S1048576 .f32),
   binary main_v11 main_v262 main_v263 (cmpf .ole : C F S1048576 .f32 → C F S1048576 .f32 → C F S1048576 .i1),
   binary main_v259 main_v263 main_v264 (andi : C F S1048576 .i1 → C F S1048576 .i1 → C F S1048576 .i1),
   unary main_v264 main_v265 (uitofp .f32 : C F S1048576 .i1 → C F S1048576 .f32),
   nullary main_cst_71 (constant S_ .f32 0x00000000#32),
   binary main_v265 main_cst_71 main_v266 ((fun x v => Host.reduceAdd x v reducesTo_S1048576_S_d0 h_S_) : C F S1048576 .f32 → C F S_ .f32 → C F S_ .f32),
   nullary main_cst_72 (constant S_ .f32 0x49800000#32),
   binary main_v266 main_cst_72 main_v267 (Host.divf : C F S_ .f32 → C F S_ .f32 → C F S_ .f32),
   nullary main_cst_73 (constant S_ .f32 0x3F800000#32),
   binary main_v266 main_cst_73 main_v268 (maximumf : C F S_ .f32 → C F S_ .f32 → C F S_ .f32),
   binary main_v20 main_v265 main_v269 (mulf : C F S1048576 .f32 → C F S1048576 .f32 → C F S1048576 .f32),
   nullary main_cst_74 (constant S_ .f32 0x00000000#32),
   binary main_v269 main_cst_74 main_v270 ((fun x v => Host.reduceAdd x v reducesTo_S1048576_S_d0 h_S_) : C F S1048576 .f32 → C F S_ .f32 → C F S_ .f32),
   binary main_v270 main_v268 main_v271 (Host.divf : C F S_ .f32 → C F S_ .f32 → C F S_ .f32),
   binary main_v11 main_v265 main_v272 (mulf : C F S1048576 .f32 → C F S1048576 .f32 → C F S1048576 .f32),
   nullary main_cst_75 (constant S_ .f32 0x00000000#32),
   binary main_v272 main_cst_75 main_v273 ((fun x v => Host.reduceAdd x v reducesTo_S1048576_S_d0 h_S_) : C F S1048576 .f32 → C F S_ .f32 → C F S_ .f32),
   binary main_v273 main_v268 main_v274 (Host.divf : C F S_ .f32 → C F S_ .f32 → C F S_ .f32),
   binary main_v274 main_v271 main_v275 (subf : C F S_ .f32 → C F S_ .f32 → C F S_ .f32),
   unary main_v275 main_v276 (Host.absf : C F S_ .f32 → C F S_ .f32),
   binary main_v276 main_v267 main_v277 (mulf : C F S_ .f32 → C F S_ .f32 → C F S_ .f32),
   nullary main_cst_76 (constant S_ .f32 0x00000000#32),
   binary main_v266 main_cst_76 main_v278 (cmpf .ogt : C F S_ .f32 → C F S_ .f32 → C F S_ .i1),
   nullary main_cst_77 (constant S_ .f32 0x00000000#32),
   unary main_cst_77 main_call11_v0 (id : C F S_ .f32 → C F S_ .f32),
   ternary main_v278 main_v277 main_call11_v0 main_v279 (select : C F S_ .i1 → C F S_ .f32 → C F S_ .f32 → C F S_ .f32),
   unary main_v279 main_v280 (broadcastInDim S1 ![] bcast_S_S1 : C F S_ .f32 → C F S1 .f32)]

def seg15W : List (Ref sig .tc) := [main_v256, main_v257, main_v258, main_v259, main_v260, main_v261, main_v262, main_v263, main_v264, main_v265, main_cst_71, main_v266, main_cst_72, main_v267, main_cst_73, main_v268, main_v269, main_cst_74, main_v270, main_v271, main_v272, main_cst_75, main_v273, main_v274, main_v275, main_v276, main_v277, main_cst_76, main_v278, main_cst_77, main_call11_v0, main_v279, main_v280]

theorem seg15_writes : (seg15 (F := F)).map HloOp.writes = seg15W.map fun w => {Proc.devRef (τ := τ) .tc w} := rfl

theorem seg15_sub : (seg15 (F := F)).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub ..⟩

theorem seg15_fresh : (seg15 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def seg16 : List (HloOp τ sig (Elt F)) :=
  [binary main_v255 main_v280 main_v281 (addf : C F S1 .f32 → C F S1 .f32 → C F S1 .f32)]

def seg16W : List (Ref sig .tc) := [main_v281]

theorem seg16_writes : (seg16 (F := F)).map HloOp.writes = seg16W.map fun w => {Proc.devRef (τ := τ) .tc w} := rfl

theorem seg16_sub : (seg16 (F := F)).Forall fun op => op.bufs ⊆ tcRefs τ sig :=
  binary_bufs_sub ..

theorem seg16_fresh : (seg16 (F := F)).Forall fun op => op.fresh = ∅ := (rfl : _ = _)

open Idealize.ShloMosaic.StableHlo (seqK seq_bind_seqK)

set_option maxHeartbeats 4000000 in
theorem part0_eq (d : Dev nD) : main_part0 (F := F) d = seq (seg0 ++ (seg1)) := by
  have h : main_part0 (F := F) d = seqK seg0 (seq seg1) := rfl
  rw [h]
  simp only [seq_append, ← seq_bind_seqK]

set_option maxHeartbeats 4000000 in
theorem part1_eq (d : Dev nD) : main_part1 (F := F) d = seq (seg2 ++ (seg3 ++ (seg4))) := by
  have h : main_part1 (F := F) d = seqK seg2 (seqK seg3 (seq seg4)) := rfl
  rw [h]
  simp only [seq_append, ← seq_bind_seqK]

set_option maxHeartbeats 4000000 in
theorem part2_eq (d : Dev nD) : main_part2 (F := F) d = seq (seg5 ++ (seg6 ++ (seg7))) := by
  have h : main_part2 (F := F) d = seqK seg5 (seqK seg6 (seq seg7)) := rfl
  rw [h]
  simp only [seq_append, ← seq_bind_seqK]

set_option maxHeartbeats 4000000 in
theorem part3_eq (d : Dev nD) : main_part3 (F := F) d = seq (seg8 ++ (seg9 ++ (seg10))) := by
  have h : main_part3 (F := F) d = seqK seg8 (seqK seg9 (seq seg10)) := rfl
  rw [h]
  simp only [seq_append, ← seq_bind_seqK]

set_option maxHeartbeats 4000000 in
theorem part4_eq (d : Dev nD) : main_part4 (F := F) d = seq (seg11 ++ (seg12 ++ (seg13))) := by
  have h : main_part4 (F := F) d = seqK seg11 (seqK seg12 (seq seg13)) := rfl
  rw [h]
  simp only [seq_append, ← seq_bind_seqK]

set_option maxHeartbeats 4000000 in
theorem part5_eq (d : Dev nD) : main_part5 (F := F) d = seq (seg14 ++ (seg15)) := by
  have h : main_part5 (F := F) d = seqK seg14 (seq seg15) := rfl
  rw [h]
  simp only [seq_append, ← seq_bind_seqK]

set_option maxHeartbeats 4000000 in
theorem part6_eq (d : Dev nD) : main_part6 (F := F) d = seq seg16 := rfl

/-- What is computed once. -/
def headOps : List (HloOp τ sig (Elt F)) := seg0

/-- Bin 0. -/
def bin0Ops : List (HloOp τ sig (Elt F)) := seg1 ++ seg2

/-- Bin 1. -/
def bin1Ops : List (HloOp τ sig (Elt F)) := seg3

/-- Bin 2. -/
def bin2Ops : List (HloOp τ sig (Elt F)) := seg4 ++ seg5

/-- Bin 3. -/
def bin3Ops : List (HloOp τ sig (Elt F)) := seg6

/-- Bin 4. -/
def bin4Ops : List (HloOp τ sig (Elt F)) := seg7 ++ seg8

/-- Bin 5. -/
def bin5Ops : List (HloOp τ sig (Elt F)) := seg9

/-- Bin 6. -/
def bin6Ops : List (HloOp τ sig (Elt F)) := seg10 ++ seg11

/-- Bin 7. -/
def bin7Ops : List (HloOp τ sig (Elt F)) := seg12

/-- Bin 8. -/
def bin8Ops : List (HloOp τ sig (Elt F)) := seg13 ++ seg14

/-- Bin 9. -/
def bin9Ops : List (HloOp τ sig (Elt F)) := seg15 ++ seg16

/-- The reference's operations. -/
def refOps : List (HloOp τ sig (Elt F)) :=
  headOps ++ (bin0Ops ++ (bin1Ops ++ (bin2Ops ++ (bin3Ops ++ (bin4Ops ++ (bin5Ops ++ (bin6Ops ++ (bin7Ops ++ (bin8Ops ++ (bin9Ops))))))))))

theorem main_eq (d : Dev nD) : main (F := F) d = seq refOps := by
  have h : main (F := F) d = (main_part0 d >>= fun _ => main_part1 d >>= fun _ => main_part2 d >>= fun _ => main_part3 d >>= fun _ =>
      main_part4 d >>= fun _ => main_part5 d >>= fun _ => main_part6 d) := rfl
  rw [h, part0_eq, part1_eq, part2_eq, part3_eq, part4_eq, part5_eq, part6_eq]
  simp only [← seq_append]
  congr 1

theorem scopedRefs_eq : (Finset.univ.filter fun b : Ref sig .tc => b.isScoped) = ∅ := by decide
theorem scopedSems_eq : (Finset.univ.filter fun sm : SemLoc sig => sm.isScoped .tc) = ∅ := by decide

theorem refOps_segs : refOps (F := F) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16)))))))))))))))) := by
  simp only [refOps, headOps, bin0Ops, bin1Ops, bin2Ops, bin3Ops, bin4Ops, bin5Ops, bin6Ops, bin7Ops, bin8Ops, bin9Ops, List.append_assoc]

theorem refOps_sub : (refOps (F := F)).Forall fun op => op.bufs ⊆ tcRefs τ sig := by
  rw [refOps_segs]
  exact List.forall_append.2 ⟨seg0_sub, List.forall_append.2 ⟨seg1_sub, List.forall_append.2 ⟨seg2_sub, List.forall_append.2 ⟨seg3_sub, List.forall_append.2 ⟨seg4_sub, List.forall_append.2 ⟨seg5_sub, List.forall_append.2 ⟨seg6_sub, List.forall_append.2 ⟨seg7_sub, List.forall_append.2 ⟨seg8_sub, List.forall_append.2 ⟨seg9_sub, List.forall_append.2 ⟨seg10_sub, List.forall_append.2 ⟨seg11_sub, List.forall_append.2 ⟨seg12_sub, List.forall_append.2 ⟨seg13_sub, List.forall_append.2 ⟨seg14_sub, List.forall_append.2 ⟨seg15_sub, seg16_sub⟩⟩⟩⟩⟩⟩⟩⟩⟩⟩⟩⟩⟩⟩⟩⟩

theorem refOps_fresh : ∀ op ∈ refOps (F := F), op.fresh = ∅ := by
  rw [refOps_segs, ← List.forall_iff_forall_mem]
  exact List.forall_append.2 ⟨seg0_fresh, List.forall_append.2 ⟨seg1_fresh, List.forall_append.2 ⟨seg2_fresh, List.forall_append.2 ⟨seg3_fresh, List.forall_append.2 ⟨seg4_fresh, List.forall_append.2 ⟨seg5_fresh, List.forall_append.2 ⟨seg6_fresh, List.forall_append.2 ⟨seg7_fresh, List.forall_append.2 ⟨seg8_fresh, List.forall_append.2 ⟨seg9_fresh, List.forall_append.2 ⟨seg10_fresh, List.forall_append.2 ⟨seg11_fresh, List.forall_append.2 ⟨seg12_fresh, List.forall_append.2 ⟨seg13_fresh, List.forall_append.2 ⟨seg14_fresh, List.forall_append.2 ⟨seg15_fresh, seg16_fresh⟩⟩⟩⟩⟩⟩⟩⟩⟩⟩⟩⟩⟩⟩⟩⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The run: every buffer at what the operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_seq scopedRefs_eq scopedSems_eq defs main (fun _ => refOps) main_eq (fun _ => refOps_sub) m ρ fun _ => refOps_fresh

/-- A buffer no operation writes is as the launch found it. -/
theorem unwritten (V : Valuation τ sig (Elt F)) (r : Ref sig .tc)
    (h : r ∉ seg0W ∧ r ∉ seg1W ∧ r ∉ seg2W ∧ r ∉ seg3W ∧ r ∉ seg4W ∧ r ∉ seg5W ∧ r ∉ seg6W ∧ r ∉ seg7W ∧ r ∉ seg8W ∧ r ∉ seg9W ∧ r ∉ seg10W ∧ r ∉ seg11W ∧ r ∉ seg12W ∧ r ∉ seg13W ∧ r ∉ seg14W ∧ r ∉ seg15W ∧ r ∉ seg16W) :
    after refOps V (Proc.devRef .tc r) = V (Proc.devRef .tc r) := by
  obtain ⟨h0, h1, h2, h3, h4, h5, h6, h7, h8, h9, h10, h11, h12, h13, h14, h15, h16⟩ := h
  rw [refOps_segs]
  simp only [after_app]
  rw [after_unwritten seg16W seg16_writes h16, after_unwritten seg15W seg15_writes h15, after_unwritten seg14W seg14_writes h14, after_unwritten seg13W seg13_writes h13, after_unwritten seg12W seg12_writes h12, after_unwritten seg11W seg11_writes h11, after_unwritten seg10W seg10_writes h10, after_unwritten seg9W seg9_writes h9, after_unwritten seg8W seg8_writes h8, after_unwritten seg7W seg7_writes h7, after_unwritten seg6W seg6_writes h6, after_unwritten seg5W seg5_writes h5, after_unwritten seg4W seg4_writes h4, after_unwritten seg3W seg3_writes h3, after_unwritten seg2W seg2_writes h2, after_unwritten seg1W seg1_writes h1, after_unwritten seg0W seg0_writes h0]

end Cert.Proof.R

end
-- ==== Proof.RefRun.lean ====
/-
  The reference's run: its arguments stay as they were and every counter ends at zero.
-/
module

public import Idealize.ShloMosaic.Lib.Quiescent
public import proofs.«01_k».proof.Proof.RefOps

@[expose] public section

set_option maxRecDepth 8192

noncomputable section

namespace Cert.Proof.R

open Cert.ReferenceIdeal Cert.ReferenceIdeal.Gen

open Idealize.ShloMosaic Idealize.ShloMosaic.StableHlo
open Idealize.ShloMosaic.TcCoe
open Idealize.SL Idealize.SL.Sem

variable {F : FTy → Type} [FloatOps F]

/-- The reference runs, leaves its two results as its operations compute them and its arguments as they were. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v281) = after refOps (launchContents m c) (Proc.devRef .tc main_v281)
        ∧ r.2.mem ((c.tc : Thread nD τ).loc main_v16) = after refOps (launchContents m c) (Proc.devRef .tc main_v16)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (run_main m ρ).mono fun r h => ⟨fun c => ⟨h c _, h c _,
    (h c main_arg0).trans (unwritten _ _ (by decide)),
    (h c main_arg1).trans (unwritten _ _ (by decide))⟩,
    sem_eq_zero_of_no_sems (nD := nD) (τ := τ) (sig := sig) (by decide) r⟩

end Cert.Proof.R

end
-- ==== Proof.RefBin.lean ====
/-
  What each bin's operations leave: the error so far plus the bin's contribution, with what was computed once left as it was.
-/
module

public import proofs.«01_k».proof.Proof.RefOps

@[expose] public section

set_option maxRecDepth 8192

noncomputable section

namespace Cert.Proof.R

open Cert.ReferenceIdeal Cert.ReferenceIdeal.Gen Cert.ReferenceIdeal.Facts

open Idealize.ShloMosaic Idealize.ShloMosaic.StableHlo
open Idealize.ShloMosaic.TcCoe
open Idealize.SL Idealize.SL.Sem

variable {F : FTy → Type} [FloatOps F]

/-- The rows whose confidence lies over the lower and not over the upper bound, as ones. -/
def inV (cf : C F S1048576 .f32) (lo hi : C F S_ .f32) : C F S1048576 .f32 :=
  uitofp .f32 (andi (cmpf .ogt cf (broadcastInDim S1048576 ![] bcast_S_S1048576 lo)) (cmpf .ole cf (broadcastInDim S1048576 ![] bcast_S_S1048576 hi)))

/-- A sum over the rows. -/
def sumV (x : C F S1048576 .f32) : C F S_ .f32 := Host.reduceAdd x (constant S_ .f32 0x00000000#32) reducesTo_S1048576_S_d0 h_S_

/-- A bin's contribution to the error, of its count, its sum of confidences and its sum of accuracies. -/
def contribW (c s a : C F S_ .f32) : C F S_ .f32 :=
  select (cmpf .ogt c (constant S_ .f32 0x00000000#32))
    (mulf (Host.absf (subf (Host.divf s (maximumf c (constant S_ .f32 0x3F800000#32))) (Host.divf a (maximumf c (constant S_ .f32 0x3F800000#32)))))
      (Host.divf c (constant S_ .f32 0x49800000#32)))
    (constant S_ .f32 0x00000000#32)

/-- A bin's contribution to the error. -/
def contribV (cf ac : C F S1048576 .f32) (lo hi : C F S_ .f32) : C F S_ .f32 :=
  contribW (sumV (inV cf lo hi)) (sumV (mulf cf (inV cf lo hi))) (sumV (mulf ac (inV cf lo hi)))

theorem bin0_read (V : Valuation τ sig (Elt F)) :
    after bin0Ops V main_v47 = addf (V main_v21 : C F S1 .f32) (broadcastInDim S1 ![] bcast_S_S1 (contribV (V main_v11) (V main_v20)
      (shapeCast S_ (extractStridedSlice S1 ![0] (V main_v18 : C F S10 .f32) slices_S10_S1_0) shapeCasts_S1_S_)
      (shapeCast S_ (extractStridedSlice S1 ![0] (V main_v19 : C F S10 .f32) slices_S10_S1_0) shapeCasts_S1_S_))) := by
  unfold bin0Ops seg1 seg2
  simp only [List.cons_append, List.nil_append]
  after_results
  rfl

theorem bin0_keep (V : Valuation τ sig (Elt F)) (r : Ref sig .tc) (h : r ∉ seg1W ∧ r ∉ seg2W) :
    after bin0Ops V (Proc.devRef .tc r) = V (Proc.devRef .tc r) := by
  unfold bin0Ops
  rw [after_app, after_unwritten seg2W seg2_writes h.2, after_unwritten seg1W seg1_writes h.1]

theorem bin1_read (V : Valuation τ sig (Elt F)) :
    after bin1Ops V main_v73 = addf (V main_v47 : C F S1 .f32) (broadcastInDim S1 ![] bcast_S_S1 (contribV (V main_v11) (V main_v20)
      (shapeCast S_ (extractStridedSlice S1 ![1] (V main_v18 : C F S10 .f32) slices_S10_S1_1) shapeCasts_S1_S_)
      (shapeCast S_ (extractStridedSlice S1 ![1] (V main_v19 : C F S10 .f32) slices_S10_S1_1) shapeCasts_S1_S_))) := by
  unfold bin1Ops seg3
  simp only [List.cons_append, List.nil_append]
  after_results
  rfl

theorem bin1_keep (V : Valuation τ sig (Elt F)) (r : Ref sig .tc) (h : r ∉ seg3W) :
    after bin1Ops V (Proc.devRef .tc r) = V (Proc.devRef .tc r) :=
  after_unwritten seg3W seg3_writes h V

theorem bin2_read (V : Valuation τ sig (Elt F)) :
    after bin2Ops V main_v99 = addf (V main_v73 : C F S1 .f32) (broadcastInDim S1 ![] bcast_S_S1 (contribV (V main_v11) (V main_v20)
      (shapeCast S_ (extractStridedSlice S1 ![2] (V main_v18 : C F S10 .f32) slices_S10_S1_2) shapeCasts_S1_S_)
      (shapeCast S_ (extractStridedSlice S1 ![2] (V main_v19 : C F S10 .f32) slices_S10_S1_2) shapeCasts_S1_S_))) := by
  unfold bin2Ops seg4 seg5
  simp only [List.cons_append, List.nil_append]
  after_results
  rfl

theorem bin2_keep (V : Valuation τ sig (Elt F)) (r : Ref sig .tc) (h : r ∉ seg4W ∧ r ∉ seg5W) :
    after bin2Ops V (Proc.devRef .tc r) = V (Proc.devRef .tc r) := by
  unfold bin2Ops
  rw [after_app, after_unwritten seg5W seg5_writes h.2, after_unwritten seg4W seg4_writes h.1]

theorem bin3_read (V : Valuation τ sig (Elt F)) :
    after bin3Ops V main_v125 = addf (V main_v99 : C F S1 .f32) (broadcastInDim S1 ![] bcast_S_S1 (contribV (V main_v11) (V main_v20)
      (shapeCast S_ (extractStridedSlice S1 ![3] (V main_v18 : C F S10 .f32) slices_S10_S1_3) shapeCasts_S1_S_)
      (shapeCast S_ (extractStridedSlice S1 ![3] (V main_v19 : C F S10 .f32) slices_S10_S1_3) shapeCasts_S1_S_))) := by
  unfold bin3Ops seg6
  simp only [List.cons_append, List.nil_append]
  after_results
  rfl

theorem bin3_keep (V : Valuation τ sig (Elt F)) (r : Ref sig .tc) (h : r ∉ seg6W) :
    after bin3Ops V (Proc.devRef .tc r) = V (Proc.devRef .tc r) :=
  after_unwritten seg6W seg6_writes h V

theorem bin4_read (V : Valuation τ sig (Elt F)) :
    after bin4Ops V main_v151 = addf (V main_v125 : C F S1 .f32) (broadcastInDim S1 ![] bcast_S_S1 (contribV (V main_v11) (V main_v20)
      (shapeCast S_ (extractStridedSlice S1 ![4] (V main_v18 : C F S10 .f32) slices_S10_S1_4) shapeCasts_S1_S_)
      (shapeCast S_ (extractStridedSlice S1 ![4] (V main_v19 : C F S10 .f32) slices_S10_S1_4) shapeCasts_S1_S_))) := by
  unfold bin4Ops seg7 seg8
  simp only [List.cons_append, List.nil_append]
  after_results
  rfl

theorem bin4_keep (V : Valuation τ sig (Elt F)) (r : Ref sig .tc) (h : r ∉ seg7W ∧ r ∉ seg8W) :
    after bin4Ops V (Proc.devRef .tc r) = V (Proc.devRef .tc r) := by
  unfold bin4Ops
  rw [after_app, after_unwritten seg8W seg8_writes h.2, after_unwritten seg7W seg7_writes h.1]

theorem bin5_read (V : Valuation τ sig (Elt F)) :
    after bin5Ops V main_v177 = addf (V main_v151 : C F S1 .f32) (broadcastInDim S1 ![] bcast_S_S1 (contribV (V main_v11) (V main_v20)
      (shapeCast S_ (extractStridedSlice S1 ![5] (V main_v18 : C F S10 .f32) slices_S10_S1_5) shapeCasts_S1_S_)
      (shapeCast S_ (extractStridedSlice S1 ![5] (V main_v19 : C F S10 .f32) slices_S10_S1_5) shapeCasts_S1_S_))) := by
  unfold bin5Ops seg9
  simp only [List.cons_append, List.nil_append]
  after_results
  rfl

theorem bin5_keep (V : Valuation τ sig (Elt F)) (r : Ref sig .tc) (h : r ∉ seg9W) :
    after bin5Ops V (Proc.devRef .tc r) = V (Proc.devRef .tc r) :=
  after_unwritten seg9W seg9_writes h V

theorem bin6_read (V : Valuation τ sig (Elt F)) :
    after bin6Ops V main_v203 = addf (V main_v177 : C F S1 .f32) (broadcastInDim S1 ![] bcast_S_S1 (contribV (V main_v11) (V main_v20)
      (shapeCast S_ (extractStridedSlice S1 ![6] (V main_v18 : C F S10 .f32) slices_S10_S1_6) shapeCasts_S1_S_)
      (shapeCast S_ (extractStridedSlice S1 ![6] (V main_v19 : C F S10 .f32) slices_S10_S1_6) shapeCasts_S1_S_))) := by
  unfold bin6Ops seg10 seg11
  simp only [List.cons_append, List.nil_append]
  after_results
  rfl

theorem bin6_keep (V : Valuation τ sig (Elt F)) (r : Ref sig .tc) (h : r ∉ seg10W ∧ r ∉ seg11W) :
    after bin6Ops V (Proc.devRef .tc r) = V (Proc.devRef .tc r) := by
  unfold bin6Ops
  rw [after_app, after_unwritten seg11W seg11_writes h.2, after_unwritten seg10W seg10_writes h.1]

theorem bin7_read (V : Valuation τ sig (Elt F)) :
    after bin7Ops V main_v229 = addf (V main_v203 : C F S1 .f32) (broadcastInDim S1 ![] bcast_S_S1 (contribV (V main_v11) (V main_v20)
      (shapeCast S_ (extractStridedSlice S1 ![7] (V main_v18 : C F S10 .f32) slices_S10_S1_7) shapeCasts_S1_S_)
      (shapeCast S_ (extractStridedSlice S1 ![7] (V main_v19 : C F S10 .f32) slices_S10_S1_7) shapeCasts_S1_S_))) := by
  unfold bin7Ops seg12
  simp only [List.cons_append, List.nil_append]
  after_results
  rfl

theorem bin7_keep (V : Valuation τ sig (Elt F)) (r : Ref sig .tc) (h : r ∉ seg12W) :
    after bin7Ops V (Proc.devRef .tc r) = V (Proc.devRef .tc r) :=
  after_unwritten seg12W seg12_writes h V

theorem bin8_read (V : Valuation τ sig (Elt F)) :
    after bin8Ops V main_v255 = addf (V main_v229 : C F S1 .f32) (broadcastInDim S1 ![] bcast_S_S1 (contribV (V main_v11) (V main_v20)
      (shapeCast S_ (extractStridedSlice S1 ![8] (V main_v18 : C F S10 .f32) slices_S10_S1_8) shapeCasts_S1_S_)
      (shapeCast S_ (extractStridedSlice S1 ![8] (V main_v19 : C F S10 .f32) slices_S10_S1_8) shapeCasts_S1_S_))) := by
  unfold bin8Ops seg13 seg14
  simp only [List.cons_append, List.nil_append]
  after_results
  rfl

theorem bin8_keep (V : Valuation τ sig (Elt F)) (r : Ref sig .tc) (h : r ∉ seg13W ∧ r ∉ seg14W) :
    after bin8Ops V (Proc.devRef .tc r) = V (Proc.devRef .tc r) := by
  unfold bin8Ops
  rw [after_app, after_unwritten seg14W seg14_writes h.2, after_unwritten seg13W seg13_writes h.1]

theorem bin9_read (V : Valuation τ sig (Elt F)) :
    after bin9Ops V main_v281 = addf (V main_v255 : C F S1 .f32) (broadcastInDim S1 ![] bcast_S_S1 (contribV (V main_v11) (V main_v20)
      (shapeCast S_ (extractStridedSlice S1 ![9] (V main_v18 : C F S10 .f32) slices_S10_S1_9) shapeCasts_S1_S_)
      (shapeCast S_ (extractStridedSlice S1 ![9] (V main_v19 : C F S10 .f32) slices_S10_S1_9) shapeCasts_S1_S_))) := by
  unfold bin9Ops seg15 seg16
  simp only [List.cons_append, List.nil_append]
  after_results
  rfl

theorem bin9_keep (V : Valuation τ sig (Elt F)) (r : Ref sig .tc) (h : r ∉ seg15W ∧ r ∉ seg16W) :
    after bin9Ops V (Proc.devRef .tc r) = V (Proc.devRef .tc r) := by
  unfold bin9Ops
  rw [after_app, after_unwritten seg16W seg16_writes h.2, after_unwritten seg15W seg15_writes h.1]

end Cert.Proof.R

end
-- ==== Proof.RefHead.lean ====
/-
  What the reference computes once: the confidences, the accuracies, their mean, and the bounds.
-/
module

public import proofs.«01_k».proof.Proof.RefBin

@[expose] public section

set_option maxRecDepth 8192

noncomputable section

namespace Cert.Proof.R

open Cert.ReferenceIdeal Cert.ReferenceIdeal.Gen Cert.ReferenceIdeal.Facts

open Idealize.ShloMosaic Idealize.ShloMosaic.StableHlo
open Idealize.ShloMosaic.TcCoe
open Idealize.SL Idealize.SL.Sem

variable {F : FTy → Type} [FloatOps F]

/-- Each row's greatest logit. -/
def mV (x : C F S1048576x100 .f32) : C F S1048576 .f32 :=
  maximumf (broadcastInDim S1048576 ![] bcast_S_S1048576 (constant S_ .f32 0xFF800000#32))
    (Host.reduce FloatOps.maximumf x (constant S_ .f32 0xFF800000#32) reducesTo_S1048576x100_S1048576_d1 h_S_)

/-- The exponentials of the logits under their row's greatest. -/
def eV (x : C F S1048576x100 .f32) : C F S1048576x100 .f32 :=
  Host.exp (subf x (broadcastInDim S1048576x100 ![0, 1] bcast_S1048576x1_S1048576x100_0_1 (broadcastInDim S1048576x1 ![0] bcast_S1048576_S1048576x1_0 (mV x))))

/-- Their sums. -/
def sV (x : C F S1048576x100 .f32) : C F S1048576 .f32 :=
  Host.reduceAdd (eV x) (constant S_ .f32 0x00000000#32) reducesTo_S1048576x100_S1048576_d1 h_S_

/-- The softmax. -/
def pV (x : C F S1048576x100 .f32) : C F S1048576x100 .f32 :=
  Host.divf (eV x) (broadcastInDim S1048576x100 ![0, 1] bcast_S1048576x1_S1048576x100_0_1 (broadcastInDim S1048576x1 ![0] bcast_S1048576_S1048576x1_0 (sV x)))

/-- The confidences. -/
def cfV (x : C F S1048576x100 .f32) : C F S1048576 .f32 :=
  Host.reduce FloatOps.maximumf (pV x) (constant S_ .f32 0xFF800000#32) reducesTo_S1048576x100_S1048576_d1 h_S_

/-- The positions a search for the greatest returns. -/
def posV {s t u : Shape} {axes : List (Fin s.rank)} (x : s.Idx → F .f32) (y : s.Idx → BitVec 32) (ix : u.Idx → F .f32) (iy : u.Idx → BitVec 32)
    (h : s.ReducesTo axes t) (hu : 0 < u.numel) : t.Idx → BitVec 32 := fun j => (Host.argReduce reducer_argmax_f32_i32 x y ix iy h hu j).2

/-- The predicted columns. -/
def amV (x : C F S1048576x100 .f32) : C F S1048576 .i32 :=
  posV (s := S1048576x100) (t := S1048576) (u := S_) (pV x) (iotaInDim S1048576x100 32 1) (constant S_ .f32 0xFF800000#32) (constantI S_ 32 0#32)
    reducesTo_S1048576x100_S1048576_d1 h_S_

/-- The accuracies, as ones. -/
def acV (x : C F S1048576x100 .f32) (l : C F S1048576 .i32) : C F S1048576 .f32 := uitofp .f32 (cmpi .eq (amV x) l)

/-- The ten bounds under the last: evenly spaced between the two ends. -/
def stepV : C F S10 .f32 := Host.divf (sitofp .f32 (iotaInDim S10 32 0)) (broadcastInDim S10 ![] bcast_S_S10 (constant S_ .f32 0x41200000#32))

/-- The eleven bounds. -/
def linV : C F S11 .f32 :=
  concatenate S11 0 [⟨S10, addf
      (mulf (broadcastInDim S10 ![0] bcast_S1_S10_0 (shapeCast S1 (constant S_ .f32 0x00000000#32 : C F S_ .f32) shapeCasts_S_S1))
        (subf (broadcastInDim S10 ![] bcast_S_S10 (constant S_ .f32 0x3F800000#32)) stepV))
      (mulf (broadcastInDim S10 ![0] bcast_S1_S10_0 (shapeCast S1 (constant S_ .f32 0x3F800000#32 : C F S_ .f32) shapeCasts_S_S1)) stepV)⟩,
    ⟨S1, broadcastInDim S1 ![] bcast_S_S1 (constant S_ .f32 0x3F800000#32)⟩] concatenates_S10_S1_S11_d0

variable (V : Valuation τ sig (Elt F))

theorem head_v11 : after headOps V main_v11 = cfV (V main_arg0) := by
  unfold headOps seg0
  after_results
  rfl

theorem head_v20 : after headOps V main_v20 = acV (V main_arg0) (V main_arg1) := by
  unfold headOps seg0
  after_results
  rfl

theorem head_v16 : after headOps V main_v16 = Host.divf (sumV (acV (V main_arg0) (V main_arg1))) (constant S_ .f32 0x49800000#32) := by
  unfold headOps seg0
  after_results
  rfl

theorem head_v18 : after headOps V main_v18 = extractStridedSlice S10 ![0] (linV : C F S11 .f32) slices_S11_S10_0 := by
  unfold headOps seg0
  after_results
  rfl

theorem head_v19 : after headOps V main_v19 = extractStridedSlice S10 ![1] (linV : C F S11 .f32) slices_S11_S10_1 := by
  unfold headOps seg0
  after_results
  rfl

theorem head_v21 : after headOps V main_v21 = broadcastInDim S1 ![] bcast_S_S1 (constant S_ .f32 0x00000000#32 : C F S_ .f32) := by
  unfold headOps seg0
  after_results

end Cert.Proof.R

end
-- ==== Proof.Math.lean ====
/-
  Facts about one row and about the bins, of extended reals alone: where a row is greatest first, what the greatest
  softmax weight is, and which of ten bins a confidence lies in.
-/
module

public import Idealize.ShloMosaic.Lib.Pointwise.Tactic
public import Idealize.ShloMosaic.Lib.Pointwise.Reduce
public import Idealize.ShloMosaic.PureOps.Ideal.Laws

@[expose] public section

noncomputable section

namespace Cert.Proof.Ece

open Idealize.ShloMosaic
open scoped BigOperators

/-! ## Constants -/

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_one : Ideal.ofBits .f32 0x3F800000#32 = 1 := by simp
theorem ofBits_ten : Ideal.ofBits .f32 0x41200000#32 = ((10 : ℝ) : EReal) := by
  simp [Ideal.ofBits, Ideal.ieee, -EReal.coe_mul]; norm_num

/-! ## The first greatest column -/

/-- Column `k` is the first at which a row is greatest. -/
def IsArg (X : Fin 100 → EReal) (k : Fin 100) : Prop := ∀ j, X j < X k ∨ (X j = X k ∧ k ≤ j)

theorem IsArg.le {X : Fin 100 → EReal} {k : Fin 100} (h : IsArg X k) (j : Fin 100) : X j ≤ X k :=
  (h j).elim le_of_lt fun e => e.1.le

theorem IsArg.unique {X : Fin 100 → EReal} {k l : Fin 100} (h : IsArg X k) (h' : IsArg X l) : k = l := by
  rcases h l with a | ⟨a, b⟩
  · exact absurd a (not_lt.2 (h'.le k))
  rcases h' k with c | ⟨-, d⟩
  · exact absurd c (not_lt.2 a.le)
  exact le_antisymm b d

theorem exists_arg (X : Fin 100 → EReal) : ∃ k, IsArg X k := by
  obtain ⟨m, -, hm⟩ := Finset.exists_max_image Finset.univ X ⟨0, Finset.mem_univ _⟩
  obtain ⟨k, hk, hk'⟩ := Finset.exists_min_image (Finset.univ.filter fun j => X j = X m) id ⟨m, by simp⟩
  have e : X k = X m := (Finset.mem_filter.1 hk).2
  refine ⟨k, fun j => ?_⟩
  rcases (hm j (Finset.mem_univ _)).lt_or_eq with a | a
  · exact .inl (e ▸ a)
  · exact .inr ⟨a.trans e.symm, hk' j (by simpa using a)⟩

theorem fold_max_eq (X : Fin 100 → EReal) (k : Fin 100) (h : ∀ j, X j ≤ X k) : Finset.univ.fold max ⊥ X = X k :=
  le_antisymm (Finset.fold_max_le _ |>.2 ⟨bot_le, fun j _ => h j⟩) (Finset.le_fold_max _ |>.2 (.inr ⟨k, Finset.mem_univ _, le_rfl⟩))

/-- The least of a list of words is one of them or the start, and none is less. -/
theorem fold_minsi_mem (S : Finset (Fin 100)) (b : BitVec 32) (g : Fin 100 → BitVec 32) :
    (S.fold IntOp.minsi b g = b ∨ ∃ k ∈ S, S.fold IntOp.minsi b g = g k)
      ∧ (S.fold IntOp.minsi b g).toInt ≤ b.toInt ∧ ∀ k ∈ S, (S.fold IntOp.minsi b g).toInt ≤ (g k).toInt := by
  induction S using Finset.cons_induction with
  | empty => simp
  | cons a S ha ih =>
    rw [Finset.fold_cons]
    generalize S.fold IntOp.minsi b g = r at ih ⊢
    obtain ⟨h1, h2, h3⟩ := ih
    have hm : (IntOp.minsi (g a) r = g a ∨ IntOp.minsi (g a) r = r) ∧ (IntOp.minsi (g a) r).toInt ≤ (g a).toInt
        ∧ (IntOp.minsi (g a) r).toInt ≤ r.toInt := by
      simp only [IntOp.minsi, BitVec.slt, decide_eq_true_eq]
      split_ifs
      · exact ⟨.inl rfl, le_rfl, by omega⟩
      · exact ⟨.inr rfl, by omega, le_rfl⟩
    obtain ⟨m1, m2, m3⟩ := hm
    refine ⟨?_, m3.trans h2, ?_⟩
    · rcases m1 with e | e
      · exact .inr ⟨a, Finset.mem_cons_self .., e⟩
      · rw [e]
        rcases h1 with h | ⟨k, hk, h⟩
        · exact .inl h
        · exact .inr ⟨k, Finset.mem_cons_of_mem hk, h⟩
    · intro k hk
      rcases Finset.mem_cons.1 hk with e | hk
      · exact e ▸ m2
      · exact m3.trans (h3 k hk)

theorem toInt_small : ∀ k : Fin 101, (BitVec.ofNat 32 k.val).toInt = k.val := by decide +kernel

theorem toInt_col (k : Fin 100) : (BitVec.ofNat 32 k.val).toInt = k.val := toInt_small ⟨k.val, by omega⟩

theorem fold_minsi_eq (X : Fin 100 → EReal) (k : Fin 100) (h : IsArg X k) :
    Finset.univ.fold IntOp.minsi 2147483647#32 (fun j : Fin 100 => if X j = X k then BitVec.ofNat 32 j.val else 100#32)
      = BitVec.ofNat 32 k.val := by
  obtain ⟨h1, -, h3⟩ := fold_minsi_mem Finset.univ 2147483647#32 fun j : Fin 100 => if X j = X k then BitVec.ofNat 32 j.val else 100#32
  have h4 := h3 k (Finset.mem_univ _)
  rw [if_pos rfl, toInt_col] at h4
  have hk := k.isLt
  rcases h1 with e | ⟨j, -, e⟩
  · rw [e, show (2147483647#32).toInt = 2147483647 by decide] at h4; omega
  · rw [e] at h4 ⊢
    by_cases hx : X j = X k
    · simp only [if_pos hx] at h4 ⊢
      rw [toInt_col] at h4
      rcases h j with a | ⟨-, b⟩
      · exact absurd hx a.ne
      · have : j = k := le_antisymm (by rw [Fin.le_def]; omega) b
        rw [this]
    · simp only [if_neg hx] at h4
      rw [show (100#32).toInt = 100 by decide] at h4; omega

/-- Of two pairs the greater, the earlier of two equal ones: a list's result is one of its pairs and none is before it. -/
def pick (a b : EReal × BitVec 32) : EReal × BitVec 32 :=
  if b.1 < a.1 ∨ (a.1 = b.1 ∧ a.2.toInt < b.2.toInt) then a else b

def Dom (r q : EReal × BitVec 32) : Prop := q.1 < r.1 ∨ (q.1 = r.1 ∧ r.2.toInt ≤ q.2.toInt)

theorem Dom.trans {p q r : EReal × BitVec 32} (h : Dom p q) (h' : Dom q r) : Dom p r := by
  unfold Dom at *
  rcases h with a | ⟨a, b⟩ <;> rcases h' with c | ⟨c, d⟩
  · exact .inl (c.trans a)
  · exact .inl (c ▸ a)
  · exact .inl (a ▸ c)
  · exact .inr ⟨c.trans a, b.trans d⟩

theorem pick_dom (a b : EReal × BitVec 32) : Dom (pick a b) a ∧ Dom (pick a b) b := by
  unfold pick
  split_ifs with h
  · refine ⟨.inr ⟨rfl, le_rfl⟩, ?_⟩
    rcases h with h | ⟨h, h'⟩
    · exact .inl h
    · exact .inr ⟨h.symm, h'.le⟩
  · refine ⟨?_, .inr ⟨rfl, le_rfl⟩⟩
    rcases lt_trichotomy a.1 b.1 with c | c | c
    · exact .inl c
    · exact .inr ⟨c, not_lt.1 fun d => h (.inr ⟨c, d⟩)⟩
    · exact absurd (.inl c) h

theorem pick_mem (a b : EReal × BitVec 32) : pick a b = a ∨ pick a b = b := by
  unfold pick; split_ifs <;> simp

theorem foldl_pick (L : List (EReal × BitVec 32)) (a : EReal × BitVec 32) :
    L.foldl pick a ∈ a :: L ∧ ∀ q ∈ a :: L, Dom (L.foldl pick a) q := by
  induction L generalizing a with
  | nil => simp [Dom]
  | cons b L ih =>
    obtain ⟨h1, h2⟩ := ih (pick a b)
    rw [List.foldl_cons]
    have hp := h2 _ (List.mem_cons_self ..)
    refine ⟨?_, fun q hq => ?_⟩
    · rcases List.mem_cons.1 h1 with e | e
      · rcases pick_mem a b with e' | e' <;> rw [e, e'] <;> simp
      · exact List.mem_cons_of_mem _ (List.mem_cons_of_mem _ e)
    · rcases List.mem_cons.1 hq with rfl | hq
      · exact hp.trans (pick_dom _ _).1
      rcases List.mem_cons.1 hq with rfl | hq
      · exact hp.trans (pick_dom _ _).2
      · exact h2 q (List.mem_cons_of_mem _ hq)

/-- The arg-max of a row of finite weights, its pairs in any order. -/
theorem foldl_arg (X : Fin 100 → ℝ) (k : Fin 100) (h : IsArg (fun j => (X j : EReal)) k) (L : List (EReal × BitVec 32))
    (hL : ∀ q, q ∈ L ↔ ∃ j, q = ((X j : EReal), BitVec.ofNat 32 j.val)) :
    (L.foldl pick (⊥, 0#32)).2 = BitVec.ofNat 32 k.val := by
  obtain ⟨h1, h2⟩ := foldl_pick L (⊥, 0#32)
  have hk := h2 _ (List.mem_cons_of_mem _ ((hL _).2 ⟨k, rfl⟩))
  rcases List.mem_cons.1 h1 with e | e
  · rw [e] at hk
    rcases hk with a | ⟨a, -⟩
    · exact absurd a (not_lt.2 bot_le)
    · exact absurd a (EReal.coe_ne_bot _)
  · obtain ⟨j, e⟩ := (hL _).1 e
    rw [e] at hk ⊢
    rcases h j with a | ⟨a, b⟩
    · rcases hk with c | ⟨c, -⟩
      · exact absurd a (not_lt.2 (le_of_lt c))
      · exact absurd c.symm (ne_of_lt a)
    · rcases hk with c | ⟨-, d⟩
      · exact absurd a.symm (ne_of_lt c)
      · have d' : (BitVec.ofNat 32 j.val).toInt ≤ (BitVec.ofNat 32 k.val).toInt := d
        rw [toInt_col, toInt_col] at d'
        have : j = k := le_antisymm (by rw [Fin.le_def]; omega) b
        rw [this]

/-! ## Softmax of a finite row -/

/-- The sum of a row's exponentials, its greatest entry subtracted first. -/
def rowSum (X : Fin 100 → ℝ) (k : Fin 100) : ℝ := ∑ j, Real.exp (X j - X k)

theorem one_le_rowSum (X : Fin 100 → ℝ) (k : Fin 100) : 1 ≤ rowSum X k := by
  have h : Real.exp (X k - X k) ≤ rowSum X k :=
    Finset.single_le_sum (f := fun j => Real.exp (X j - X k)) (fun j _ => (Real.exp_pos _).le) (Finset.mem_univ k)
  simpa using h

theorem exp_sub (a b : ℝ) : Ideal.exp ((a : EReal) - (b : EReal)) = ((Real.exp (a - b) : ℝ) : EReal) := by
  rw [← EReal.coe_sub]; rfl

theorem sum_coe {n : ℕ} (f : Fin n → ℝ) : ∑ j, ((f j : ℝ) : EReal) = ((∑ j, f j : ℝ) : EReal) := by
  induction n with
  | zero => simp
  | succ n ih => rw [Fin.sum_univ_succ, Fin.sum_univ_succ, EReal.coe_add, ih]

theorem sum_exp (X : Fin 100 → ℝ) (k : Fin 100) :
    ∑ j, Ideal.exp ((X j : EReal) - (X k : EReal)) = ((rowSum X k : ℝ) : EReal) := by
  simp only [exp_sub]
  exact sum_coe _

theorem div_coe (a s : ℝ) (h : 1 ≤ s) : Ideal.div (a : EReal) (s : EReal) = ((a / s : ℝ) : EReal) := by
  have h0 : (s : EReal) ≠ 0 := by
    intro e
    have : s = 0 := by exact_mod_cast e
    linarith
  unfold Ideal.div
  rw [if_neg h0, ← EReal.coe_inv, ← EReal.coe_mul, div_eq_mul_inv]

/-- The softmax weight at a column. -/
def wt (X : Fin 100 → ℝ) (k j : Fin 100) : ℝ := Real.exp (X j - X k) / rowSum X k

theorem weight (X : Fin 100 → ℝ) (k j : Fin 100) :
    Ideal.div (Ideal.exp ((X j : EReal) - (X k : EReal))) ((rowSum X k : ℝ) : EReal) = ((wt X k j : ℝ) : EReal) := by
  rw [exp_sub, div_coe _ _ (one_le_rowSum X k)]; rfl

theorem wt_self (X : Fin 100 → ℝ) (k : Fin 100) : wt X k k = 1 / rowSum X k := by
  unfold wt; rw [sub_self, Real.exp_zero]

/-- A row is greatest first where its softmax is. -/
theorem isArg_wt (X : Fin 100 → ℝ) (k l : Fin 100) (h : IsArg (fun j => (X j : EReal)) l) :
    IsArg (fun j => ((wt X k j : ℝ) : EReal)) l := by
  have hs : 0 < rowSum X k := lt_of_lt_of_le one_pos (one_le_rowSum X k)
  intro j
  rcases h j with a | ⟨a, b⟩
  · left
    have a' : X j < X l := EReal.coe_lt_coe_iff.1 a
    have : wt X k j < wt X k l := div_lt_div_of_pos_right (Real.exp_lt_exp.2 (by linarith)) hs
    exact EReal.coe_lt_coe_iff.2 this
  · right
    have a' : X j = X l := EReal.coe_eq_coe_iff.1 a
    refine ⟨?_, b⟩
    show ((wt X k j : ℝ) : EReal) = ((wt X k l : ℝ) : EReal)
    unfold wt; rw [a']

/-- A row's confidence. -/
def conf (X : Fin 100 → ℝ) (k : Fin 100) : ℝ := 1 / rowSum X k

theorem conf_pos (X : Fin 100 → ℝ) (k : Fin 100) : 0 < conf X k := by
  have := one_le_rowSum X k
  unfold conf; positivity

theorem conf_le (X : Fin 100 → ℝ) (k : Fin 100) : conf X k ≤ 1 := by
  have := one_le_rowSum X k
  unfold conf; rw [div_le_one (by linarith)]; exact this

/-! ## The bins -/

/-- The bin a confidence in `(0, 1]` lies in. -/
theorem exists_bin (c : ℝ) (h0 : 0 < c) (h1 : c ≤ 1) : ∃ i : Fin 10, (i.val : ℝ) / 10 < c ∧ c ≤ ((i.val + 1 : ℕ) : ℝ) / 10 := by
  have hp : 0 < ⌈c * 10⌉₊ := Nat.ceil_pos.2 (by positivity)
  have hl : ⌈c * 10⌉₊ ≤ 10 := Nat.ceil_le.2 (by norm_num; linarith)
  have ha : c * 10 ≤ (⌈c * 10⌉₊ : ℝ) := Nat.le_ceil _
  have hb : (⌈c * 10⌉₊ : ℝ) < c * 10 + 1 := Nat.ceil_lt_add_one (by positivity)
  refine ⟨⟨⌈c * 10⌉₊ - 1, by omega⟩, ?_, ?_⟩
  · have : ((⌈c * 10⌉₊ - 1 : ℕ) : ℝ) = (⌈c * 10⌉₊ : ℝ) - 1 := by rw [Nat.cast_sub hp]; simp
    show ((⌈c * 10⌉₊ - 1 : ℕ) : ℝ) / 10 < c
    rw [this]; linarith
  · show c ≤ ((⌈c * 10⌉₊ - 1 + 1 : ℕ) : ℝ) / 10
    rw [Nat.sub_add_cancel hp]; linarith

theorem bin_iff (c : ℝ) (i : Fin 10) (hi : (i.val : ℝ) / 10 < c ∧ c ≤ ((i.val + 1 : ℕ) : ℝ) / 10) (l : Fin 10) :
    ((l.val : ℝ) / 10 < c ∧ c ≤ ((l.val + 1 : ℕ) : ℝ) / 10) ↔ l = i := by
  constructor
  · rintro ⟨a, b⟩
    obtain ⟨a', b'⟩ := hi
    have h1 : (l.val : ℝ) < ((i.val + 1 : ℕ) : ℝ) := by linarith
    have h2 : (i.val : ℝ) < ((l.val + 1 : ℕ) : ℝ) := by linarith
    have h1' : l.val < i.val + 1 := by exact_mod_cast h1
    have h2' : i.val < l.val + 1 := by exact_mod_cast h2
    exact Fin.ext (by omega)
  · rintro rfl; exact hi

/-- An inner bound lies below a confidence of bin `i` when its number is at most `i`. -/
theorem bound_iff (c : ℝ) (i : Fin 10) (hi : (i.val : ℝ) / 10 < c ∧ c ≤ ((i.val + 1 : ℕ) : ℝ) / 10) (j : ℕ) :
    ((j : ℝ) / 10 < c) ↔ j ≤ i.val := by
  obtain ⟨a', b'⟩ := hi
  constructor
  · intro a
    have h1 : (j : ℝ) < ((i.val + 1 : ℕ) : ℝ) := by linarith
    have h1' : j < i.val + 1 := by exact_mod_cast h1
    omega
  · intro a
    have : (j : ℝ) ≤ (i.val : ℝ) := by exact_mod_cast a
    linarith

/-! ## Sums over blocks -/

theorem sum_range_mul (a b : ℕ) (g : ℕ → EReal) :
    ∑ n ∈ Finset.range (a * b), g n = ∑ i ∈ Finset.range a, ∑ j ∈ Finset.range b, g (b * i + j) := by
  induction a with
  | zero => simp
  | succ a ih => rw [Nat.succ_mul, Finset.sum_range_add, ih, Finset.sum_range_succ, Nat.mul_comm a b]

/-- The sum over all rows, gathered by task, lane and trip. -/
theorem sum_tasks (g : ℕ → EReal) :
    ∑ t ∈ Finset.range 32, ∑ l ∈ Finset.range 16, ∑ k ∈ Finset.range 2048, g (32768 * t + 16 * k + l)
      = ∑ n ∈ Finset.range 1048576, g n := by
  rw [show 1048576 = 32 * 32768 from rfl, sum_range_mul]
  refine Finset.sum_congr rfl fun t _ => ?_
  rw [Finset.sum_comm, show 32768 = 2048 * 16 from rfl, sum_range_mul]
  refine Finset.sum_congr rfl fun k _ => Finset.sum_congr rfl fun l _ => ?_
  rw [Nat.add_assoc]

/-! ## A bin of the error -/

/-- A bin's contribution, of its count, its sum of confidences and its sum of accuracies. -/
def contr (c s a : EReal) : EReal :=
  Scalar.select (FloatOps.cmpf (F := Ideal) (φ := .f32) .ogt c 0)
    (FloatOps.absf (F := Ideal) (φ := .f32) (Ideal.div s (max c 1) - Ideal.div a (max c 1)) * Ideal.div c (Ideal.ofBits .f32 1233125376#32)) 0

/-- What bin `i`'s rows add up to. -/
def part (b : Fin 1048576 → Fin 10) (w : Fin 1048576 → EReal) (i : Fin 10) : EReal := ∑ n, if b n = i then w n else 0

/-- Bin `i`'s contribution. -/
def share (b : Fin 1048576 → Fin 10) (c a : Fin 1048576 → EReal) (i : Fin 10) : EReal :=
  contr (part b (fun _ => 1) i) (part b c i) (part b a i)

end Cert.Proof.Ece

end
-- ==== Proof.RefVals.lean ====
/-
  The reference's rows on the ideal number system: a row's confidence, its predicted column, the bounds, and a bin's
  contribution.
-/
module

public import proofs.«01_k».proof.Proof.RefHead
public import proofs.«01_k».proof.Proof.Math
public import Idealize.ShloMosaic.Lib.Pointwise.Tactic
public import Idealize.ShloMosaic.Lib.Pointwise.Reduce
public import Idealize.ShloMosaic.Lib.Pipeline.Value

@[expose] public section

set_option maxRecDepth 8192

noncomputable section

namespace Cert.Proof.R

open Cert.ReferenceIdeal Cert.ReferenceIdeal.Gen Cert.ReferenceIdeal.Facts

open Idealize.ShloMosaic

theorem reduceMax_row (x : Vec Ideal S1048576x100 .f32) (n : Fin 1048576) :
    Host.reduce (FloatOps.maximumf (F := Ideal) (φ := .f32)) x (constant S_ .f32 0xFF800000#32) reducesTo_S1048576x100_S1048576_d1 h_S_ (ix1 n)
      = Finset.univ.fold max ⊥ (fun k => x (ix2 n k)) := by
  pointwise
  rw [Ece.ofBits_bot]

theorem bcast_bot (n : Fin 1048576) :
    broadcastInDim S1048576 ![] bcast_S_S1048576 (constant (F := Ideal) S_ .f32 0xFF800000#32) (ix1 n) = (⊥ : EReal) :=
  Ece.ofBits_bot

theorem maximumf_at {s : Shape} (a b : Vec Ideal s .f32) (i : s.Idx) : maximumf (F := Ideal) (φ := .f32) a b i = (max (a i) (b i) : EReal) := rfl
theorem mulf_at {s : Shape} (a b : Vec Ideal s .f32) (i : s.Idx) : mulf (F := Ideal) (φ := .f32) a b i = (a i * b i : EReal) := rfl

/-! ## The predicted column -/

theorem reducer_eq : (reducer_argmax_f32_i32 (F := Ideal)) = Ece.pick := by
  funext a b
  have h4 : IntOp.ori (FloatOps.cmpf (F := Ideal) .ogt a.1 b.1) (FloatOps.cmpf (F := Ideal) .une a.1 a.1) = 1#1 ↔ b.1 < a.1 := by
    show BitVec.ofBool (decide (b.1 < a.1)) ||| BitVec.ofBool (decide (a.1 ≠ a.1)) = 1#1 ↔ _
    by_cases h : b.1 < a.1 <;> simp [h]
  have h8 : IntOp.ori (IntOp.ori (FloatOps.cmpf (F := Ideal) .ogt a.1 b.1) (FloatOps.cmpf (F := Ideal) .une a.1 a.1))
      (IntOp.andi (FloatOps.cmpf (F := Ideal) .oeq a.1 b.1) (IntOp.cmpi .slt a.2 b.2)) = 1#1 ↔ (b.1 < a.1 ∨ (a.1 = b.1 ∧ a.2.toInt < b.2.toInt)) := by
    show (BitVec.ofBool (decide (b.1 < a.1)) ||| BitVec.ofBool (decide (a.1 ≠ a.1))) ||| (BitVec.ofBool (decide (a.1 = b.1)) &&& BitVec.ofBool (decide (a.2.toInt < b.2.toInt))) = 1#1 ↔ _
    by_cases h : b.1 < a.1
    · by_cases h' : a.1 = b.1 <;> by_cases h'' : a.2.toInt < b.2.toInt <;> simp [h, h', h'']
    · by_cases h' : a.1 = b.1 <;> by_cases h'' : a.2.toInt < b.2.toInt <;> simp [h, h', h'']
  unfold Ece.pick
  show ((if IntOp.ori (FloatOps.cmpf (F := Ideal) .ogt a.1 b.1) (FloatOps.cmpf (F := Ideal) .une a.1 a.1) = 1#1 then a.1 else b.1),
    (if IntOp.ori (IntOp.ori (FloatOps.cmpf (F := Ideal) .ogt a.1 b.1) (FloatOps.cmpf (F := Ideal) .une a.1 a.1))
      (IntOp.andi (FloatOps.cmpf (F := Ideal) .oeq a.1 b.1) (IntOp.cmpi .slt a.2 b.2)) = 1#1 then a.2 else b.2)) = _
  by_cases h : b.1 < a.1
  · rw [if_pos (h4.2 h), if_pos (h8.2 (.inl h)), if_pos (.inl h)]
  · rw [if_neg (fun e => h (h4.1 e))]
    by_cases h' : a.1 = b.1 ∧ a.2.toInt < b.2.toInt
    · rw [if_pos (h8.2 (.inr h')), if_pos (.inr h'), ← h'.1]
    · rw [if_neg (fun e => (h8.1 e).elim h h'), if_neg (fun e => e.elim h h')]

/-- A row's index. -/
theorem drop_row (i : S1048576x100.Idx) : reducesTo_S1048576x100_S1048576_d1.drop i = ix1 (i 0) := by
  funext a
  match a with
  | ⟨0, _⟩ => exact Fin.ext (Shape.ReducesTo.drop_apply_val_of_eq reducesTo_S1048576x100_S1048576_d1 i 0 0)

theorem eq_ix2 (i : S1048576x100.Idx) : i = ix2 (i 0) (i 1) := by
  funext a
  match a with
  | ⟨0, _⟩ => rfl
  | ⟨1, _⟩ => rfl

/-- A row's pairs of value and column. -/
theorem fiber (x : Vec Ideal S1048576x100 .f32) (n : Fin 1048576) (X : Fin 100 → EReal) (h : ∀ j, x (ix2 n j) = X j) (q : EReal × BitVec 32) :
    q ∈ Host.argReduceFiber x (iotaInDim S1048576x100 32 1) reducesTo_S1048576x100_S1048576_d1 (ix1 n) ↔ ∃ j, q = (X j, BitVec.ofNat 32 j.val) := by
  have hi : ∀ j : Fin 100, iotaInDim S1048576x100 32 1 (ix2 n j) = BitVec.ofNat 32 j.val := fun j => rfl
  unfold Host.argReduceFiber
  simp only [List.mem_map, List.mem_filter, decide_eq_true_eq]
  constructor
  · rintro ⟨a, ⟨-, ha⟩, rfl⟩
    obtain ⟨j, e⟩ : ∃ j : Fin 100, S1048576x100.rowMajor.symm a = ix2 n j := by
      rw [drop_row] at ha
      have h0 : S1048576x100.rowMajor.symm a 0 = n := congrFun ha 0
      refine ⟨S1048576x100.rowMajor.symm a 1, ?_⟩
      rw [← h0]
      exact eq_ix2 _
    refine ⟨j, ?_⟩
    rw [e, h, hi]
  · rintro ⟨j, rfl⟩
    refine ⟨S1048576x100.rowMajor (ix2 n j), ⟨List.mem_finRange _, ?_⟩, ?_⟩
    · rw [Equiv.symm_apply_apply, drop_row]
      rfl
    · rw [Equiv.symm_apply_apply, h, hi]

/-- The start of the search for a row's greatest. -/
theorem start_eq : ((constant (F := Ideal) S_ .f32 0xFF800000#32) (Shape.Idx.first h_S_), (constantI S_ 32 0#32) (Shape.Idx.first h_S_)) = ((⊥ : EReal), 0#32) :=
  congrArg (fun b : EReal => (b, 0#32)) Ece.ofBits_bot

theorem posV_row {s t u : Shape} {axes : List (Fin s.rank)}
    (x : FVec Ideal s .f32) (y : s.Idx → BitVec 32) (ix : u.Idx → Ideal .f32) (iy : u.Idx → BitVec 32) (h : s.ReducesTo axes t) (hu : 0 < u.numel)
    (j : t.Idx) (X : Fin 100 → ℝ) (k : Fin 100) (hk : Ece.IsArg (fun j => ((X j : ℝ) : EReal)) k)
    (hs : (ix (Shape.Idx.first hu), iy (Shape.Idx.first hu)) = ((⊥ : EReal), 0#32))
    (hq : ∀ q : EReal × BitVec 32, q ∈ Host.argReduceFiber x y h j ↔ ∃ c, q = (((X c : ℝ) : EReal), BitVec.ofNat 32 c.val)) :
    posV (F := Ideal) x y ix iy h hu j = BitVec.ofNat 32 k.val := by
  unfold posV
  rw [Ideal.argReduce_eq_reduce2, Host.reduce2_eq_foldl_fiber, reducer_eq, hs]
  exact Ece.foldl_arg X k hk _ hq

/-! ## A row -/

section Row

variable (x : Vec Ideal S1048576x100 .f32) (n : Fin 1048576) (X : Fin 100 → ℝ) (hX : ∀ k, x (ix2 n k) = ((X k : ℝ) : EReal))
variable (k : Fin 100) (hk : Ece.IsArg (fun j => ((X j : ℝ) : EReal)) k)

include hX hk

theorem mV_row : mV (F := Ideal) x (ix1 n) = ((X k : ℝ) : EReal) := by
  unfold mV
  rw [maximumf_at, bcast_bot, reduceMax_row]
  simp only [hX]
  rw [Ece.fold_max_eq (fun j => ((X j : ℝ) : EReal)) k hk.le]
  exact max_eq_right bot_le

theorem eV_row (j : Fin 100) : eV (F := Ideal) x (ix2 n j) = Ideal.exp (((X j : ℝ) : EReal) - ((X k : ℝ) : EReal)) := by
  unfold eV
  pointwise
  rw [mV_row x n X hX k hk, hX]

theorem sV_row : sV (F := Ideal) x (ix1 n) = ((Ece.rowSum X k : ℝ) : EReal) := by
  unfold sV
  pointwise
  simp only [eV_row x n X hX k hk]
  rw [Ece.sum_exp]

theorem pV_row (j : Fin 100) : pV (F := Ideal) x (ix2 n j) = ((Ece.wt X k j : ℝ) : EReal) := by
  unfold pV
  pointwise
  rw [eV_row x n X hX k hk, sV_row x n X hX k hk]
  exact Ece.weight X k j

theorem cfV_row : cfV (F := Ideal) x (ix1 n) = ((Ece.conf X k : ℝ) : EReal) := by
  unfold cfV
  rw [reduceMax_row]
  simp only [pV_row x n X hX k hk]
  rw [Ece.fold_max_eq (fun j => ((Ece.wt X k j : ℝ) : EReal)) k (Ece.isArg_wt X k k hk).le, Ece.wt_self]
  rfl

end Row

/-! ## The bounds -/

theorem cast_zero : shapeCast S1 (constant (F := Ideal) S_ .f32 0x00000000#32) shapeCasts_S_S1 (ix1 0) = (0 : EReal) := Ideal.ofBits_zero_f32
theorem cast_one : shapeCast S1 (constant (F := Ideal) S_ .f32 0x3F800000#32) shapeCasts_S_S1 (ix1 0) = (1 : EReal) := Ece.ofBits_one

theorem stepV_eq (j : Fin 10) : stepV (F := Ideal) (ix1 j) = (((j.val : ℝ) / 10 : ℝ) : EReal) := by
  have h : FloatOps.sitofp (F := Ideal) .f32 (BitVec.ofNat 32 j.val) = ((j.val : ℝ) : EReal) := by
    show (((BitVec.ofNat 32 j.val).toInt : ℝ) : EReal) = _
    rw [Ece.toInt_small ⟨j.val, by omega⟩]
    norm_cast
  unfold stepV
  pointwise
  rw [h, Ece.ofBits_ten]
  exact Ece.div_coe _ _ (by norm_num)

theorem linV_lt (j : Fin 10) : linV (F := Ideal) (ix1 ⟨j.val, by omega⟩) = (((j.val : ℝ) / 10 : ℝ) : EReal) := by
  unfold linV
  rw [concatenate_pair_apply_left 0 _ _ concatenates_S10_S1_S11_d0 (ix1 ⟨j.val, by omega⟩) rfl (ix1 j) (fun b => by match b with | ⟨0, _⟩ => rfl)]
  pointwise
  rw [stepV_eq]
  rw [cast_zero, cast_one, zero_mul, one_mul, zero_add]

theorem linV_last : linV (F := Ideal) (ix1 10) = (1 : EReal) := by
  unfold linV
  rw [concatenate_pair_apply_right 0 _ _ concatenates_S10_S1_S11_d0 (ix1 10) rfl rfl (ix1 0) (fun b => by match b with | ⟨0, _⟩ => simp) rfl]
  pointwise

theorem lo_eq (j : Fin 10) : extractStridedSlice S10 ![0] (linV (F := Ideal)) slices_S11_S10_0 (ix1 j) = (((j.val : ℝ) / 10 : ℝ) : EReal) := by
  pointwise
  exact linV_lt j

theorem hi_eq (j : Fin 10) : extractStridedSlice S10 ![1] (linV (F := Ideal)) slices_S11_S10_1 (ix1 j) = ((((j.val + 1 : ℕ) : ℝ) / 10 : ℝ) : EReal) := by
  pointwise
  by_cases h : j.val < 9
  · have := linV_lt ⟨j.val + 1, by omega⟩
    rw [← this]
    congr 2
    exact Fin.ext (Nat.add_comm _ _)
  · obtain rfl : j = 9 := by apply Fin.ext; have := j.isLt; show j.val = 9; omega
    refine Eq.trans linV_last ?_
    norm_num

/-! ## A bin -/

theorem cast_scalar (g : Vec Ideal S1 .f32) : shapeCast S_ g shapeCasts_S1_S_ ix0 = g (ix1 0) := by
  unfold shapeCast
  refine congrArg g ?_
  funext a
  match a with
  | ⟨0, _⟩ => exact Subsingleton.elim (α := Fin 1) _ _

theorem add_bcast (a : Vec Ideal S1 .f32) (b : Vec Ideal S_ .f32) :
    addf (F := Ideal) (φ := .f32) a (broadcastInDim S1 ![] bcast_S_S1 b) = fun _ => (a (ix1 0) + b ix0 : EReal) := by
  funext i
  have h : i = ix1 0 := by
    funext a
    match a with
    | ⟨0, _⟩ => exact Subsingleton.elim (α := Fin 1) _ _
  rw [h]
  pointwise

theorem cell_0 (f : Vec Ideal S10 .f32) : shapeCast S_ (extractStridedSlice S1 ![0] f slices_S10_S1_0) shapeCasts_S1_S_ ix0 = f (ix1 0) := by
  rw [cast_scalar]
  pointwise

theorem cell_1 (f : Vec Ideal S10 .f32) : shapeCast S_ (extractStridedSlice S1 ![1] f slices_S10_S1_1) shapeCasts_S1_S_ ix0 = f (ix1 1) := by
  rw [cast_scalar]
  pointwise

theorem cell_2 (f : Vec Ideal S10 .f32) : shapeCast S_ (extractStridedSlice S1 ![2] f slices_S10_S1_2) shapeCasts_S1_S_ ix0 = f (ix1 2) := by
  rw [cast_scalar]
  pointwise

theorem cell_3 (f : Vec Ideal S10 .f32) : shapeCast S_ (extractStridedSlice S1 ![3] f slices_S10_S1_3) shapeCasts_S1_S_ ix0 = f (ix1 3) := by
  rw [cast_scalar]
  pointwise

theorem cell_4 (f : Vec Ideal S10 .f32) : shapeCast S_ (extractStridedSlice S1 ![4] f slices_S10_S1_4) shapeCasts_S1_S_ ix0 = f (ix1 4) := by
  rw [cast_scalar]
  pointwise

theorem cell_5 (f : Vec Ideal S10 .f32) : shapeCast S_ (extractStridedSlice S1 ![5] f slices_S10_S1_5) shapeCasts_S1_S_ ix0 = f (ix1 5) := by
  rw [cast_scalar]
  pointwise

theorem cell_6 (f : Vec Ideal S10 .f32) : shapeCast S_ (extractStridedSlice S1 ![6] f slices_S10_S1_6) shapeCasts_S1_S_ ix0 = f (ix1 6) := by
  rw [cast_scalar]
  pointwise

theorem cell_7 (f : Vec Ideal S10 .f32) : shapeCast S_ (extractStridedSlice S1 ![7] f slices_S10_S1_7) shapeCasts_S1_S_ ix0 = f (ix1 7) := by
  rw [cast_scalar]
  pointwise

theorem cell_8 (f : Vec Ideal S10 .f32) : shapeCast S_ (extractStridedSlice S1 ![8] f slices_S10_S1_8) shapeCasts_S1_S_ ix0 = f (ix1 8) := by
  rw [cast_scalar]
  pointwise

theorem cell_9 (f : Vec Ideal S10 .f32) : shapeCast S_ (extractStridedSlice S1 ![9] f slices_S10_S1_9) shapeCasts_S1_S_ ix0 = f (ix1 9) := by
  rw [cast_scalar]
  pointwise

theorem sumV_eq (x : Vec Ideal S1048576 .f32) : sumV (F := Ideal) x ix0 = ∑ n, x (ix1 n) := by
  unfold sumV
  pointwise

theorem contribW_eq (c s a : Vec Ideal S_ .f32) : contribW (F := Ideal) c s a ix0 = Ece.contr (c ix0) (s ix0) (a ix0) := by
  unfold contribW Ece.contr
  pointwise

section Bin

variable (cf ac : Vec Ideal S1048576 .f32) (lo hi : Vec Ideal S_ .f32)
variable (c : Fin 1048576 → ℝ) (hc : ∀ n, cf (ix1 n) = ((c n : ℝ) : EReal))
variable (b : Fin 1048576 → Fin 10) (hb : ∀ n, ((b n).val : ℝ) / 10 < c n ∧ c n ≤ (((b n).val + 1 : ℕ) : ℝ) / 10)
variable (i : Fin 10) (hlo : lo ix0 = (((i.val : ℝ) / 10 : ℝ) : EReal)) (hhi : hi ix0 = ((((i.val + 1 : ℕ) : ℝ) / 10 : ℝ) : EReal))

include hc hb hlo hhi

theorem inV_row (n : Fin 1048576) : inV (F := Ideal) cf lo hi (ix1 n) = if b n = i then 1 else (0 : EReal) := by
  have e : inV (F := Ideal) cf lo hi (ix1 n) = FloatOps.uitofp (F := Ideal) .f32 (IntOp.andi (FloatOps.cmpf (F := Ideal) (φ := .f32) .ogt (cf (ix1 n)) (lo ix0))
      (FloatOps.cmpf (F := Ideal) (φ := .f32) .ole (cf (ix1 n)) (hi ix0))) := by
    unfold inV
    pointwise
  rw [e, hc, hlo, hhi]
  have h1 : FloatOps.cmpf (F := Ideal) (φ := .f32) .ogt ((c n : ℝ) : EReal) (((i.val : ℝ) / 10 : ℝ) : EReal) = BitVec.ofBool (decide ((i.val : ℝ) / 10 < c n)) := by
    show BitVec.ofBool (decide _) = _
    exact congrArg BitVec.ofBool (decide_eq_decide.2 EReal.coe_lt_coe_iff)
  have h2 : FloatOps.cmpf (F := Ideal) (φ := .f32) .ole ((c n : ℝ) : EReal) ((((i.val + 1 : ℕ) : ℝ) / 10 : ℝ) : EReal) = BitVec.ofBool (decide (c n ≤ ((i.val + 1 : ℕ) : ℝ) / 10)) := by
    show BitVec.ofBool (decide _) = _
    exact congrArg BitVec.ofBool (decide_eq_decide.2 EReal.coe_le_coe_iff)
  rw [h1, h2]
  have hi := Ece.bin_iff (c n) (b n) (hb n) i
  by_cases h : b n = i
  · rw [if_pos h]
    obtain ⟨p, q⟩ := hi.2 h.symm
    rw [decide_eq_true p, decide_eq_true q]
    simp [FloatOps.uitofp, IntOp.andi]
  · rw [if_neg h]
    have h0 := fun z => h (hi.1 z).symm
    by_cases p : (i.val : ℝ) / 10 < c n
    · have q : ¬ c n ≤ ((i.val + 1 : ℕ) : ℝ) / 10 := fun q => h0 ⟨p, q⟩
      rw [decide_eq_true p, decide_eq_false q]
      simp [FloatOps.uitofp, IntOp.andi]
    · rw [decide_eq_false p]
      simp [FloatOps.uitofp, IntOp.andi]

theorem contribV_eq : contribV (F := Ideal) cf ac lo hi ix0 = Ece.share b (fun n => cf (ix1 n)) (fun n => ac (ix1 n)) i := by
  unfold contribV Ece.share Ece.part
  rw [contribW_eq, sumV_eq, sumV_eq, sumV_eq]
  simp only [mulf_at, inV_row cf lo hi c hc b hb i hlo hhi, mul_ite, mul_one, mul_zero]

end Bin

end Cert.Proof.R

end
-- ==== Proof.RefEnd.lean ====
/-
  The reference's two results on the ideal number system: the sum of the bins' contributions, and the mean accuracy.
-/
module

public import proofs.«01_k».proof.Proof.RefVals

@[expose] public section

set_option maxRecDepth 8192

noncomputable section

namespace Cert.Proof.R

open Cert.ReferenceIdeal Cert.ReferenceIdeal.Gen Cert.ReferenceIdeal.Facts

open Idealize.ShloMosaic Idealize.ShloMosaic.StableHlo
open Idealize.ShloMosaic.TcCoe

section Row

variable (x : Vec Ideal S1048576x100 .f32) (n : Fin 1048576) (X : Fin 100 → ℝ) (hX : ∀ k, x (ix2 n k) = ((X k : ℝ) : EReal))
variable (k : Fin 100) (hk : Ece.IsArg (fun j => ((X j : ℝ) : EReal)) k)

include hX hk

theorem amV_row : amV (F := Ideal) x (ix1 n) = BitVec.ofNat 32 k.val := by
  unfold amV
  exact posV_row (pV (F := Ideal) x) (iotaInDim S1048576x100 32 1) _ _ reducesTo_S1048576x100_S1048576_d1 h_S_ (ix1 n) (Ece.wt X k) k
    (Ece.isArg_wt X k k hk) start_eq (fiber (pV (F := Ideal) x) n _ (pV_row x n X hX k hk))

omit hX hk in
theorem eq_at {s : Shape} (a b : IVec s 32) (i : s.Idx) :
    uitofp (F := Ideal) .f32 (cmpi .eq a b) i = if a i = b i then 1 else (0 : EReal) := by
  show FloatOps.uitofp (F := Ideal) .f32 (IntOp.cmpi .eq (a i) (b i)) = _
  unfold IntOp.cmpi
  by_cases e : a i = b i
  · rw [if_pos e, e]
    simp [FloatOps.uitofp]
  · rw [if_neg e]
    simp only [beq_eq_false_iff_ne.2 e]
    simp [FloatOps.uitofp]

theorem acV_row (l : Vec Ideal S1048576 .i32) :
    acV (F := Ideal) x l (ix1 n) = if BitVec.ofNat 32 k.val = l (ix1 n) then 1 else (0 : EReal) := by
  unfold acV
  rw [eq_at, amV_row x n X hX k hk]

end Row

/-! ## The bins in turn -/

variable (x : Vec Ideal S1048576x100 .f32) (l : Vec Ideal S1048576 .i32)

/-- What is computed once, in place. -/
def Once (V : Valuation τ sig (Elt Ideal)) : Prop :=
  V main_v11 = cfV (F := Ideal) x ∧ V main_v20 = acV (F := Ideal) x l
    ∧ V main_v18 = extractStridedSlice S10 ![0] (linV (F := Ideal)) slices_S11_S10_0
    ∧ V main_v19 = extractStridedSlice S10 ![1] (linV (F := Ideal)) slices_S11_S10_1
    ∧ V main_v16 = Host.divf (F := Ideal) (φ := .f32) (sumV (F := Ideal) (acV (F := Ideal) x l)) (constant (F := Ideal) S_ .f32 0x49800000#32)

theorem once_0 (V : Valuation τ sig (Elt Ideal)) (h : Once x l V) : Once x l (after bin0Ops V) :=
  ⟨(bin0_keep V main_v11 (by decide)).trans h.1, (bin0_keep V main_v20 (by decide)).trans h.2.1, (bin0_keep V main_v18 (by decide)).trans h.2.2.1,
    (bin0_keep V main_v19 (by decide)).trans h.2.2.2.1, (bin0_keep V main_v16 (by decide)).trans h.2.2.2.2⟩

theorem once_1 (V : Valuation τ sig (Elt Ideal)) (h : Once x l V) : Once x l (after bin1Ops V) :=
  ⟨(bin1_keep V main_v11 (by decide)).trans h.1, (bin1_keep V main_v20 (by decide)).trans h.2.1, (bin1_keep V main_v18 (by decide)).trans h.2.2.1,
    (bin1_keep V main_v19 (by decide)).trans h.2.2.2.1, (bin1_keep V main_v16 (by decide)).trans h.2.2.2.2⟩

theorem once_2 (V : Valuation τ sig (Elt Ideal)) (h : Once x l V) : Once x l (after bin2Ops V) :=
  ⟨(bin2_keep V main_v11 (by decide)).trans h.1, (bin2_keep V main_v20 (by decide)).trans h.2.1, (bin2_keep V main_v18 (by decide)).trans h.2.2.1,
    (bin2_keep V main_v19 (by decide)).trans h.2.2.2.1, (bin2_keep V main_v16 (by decide)).trans h.2.2.2.2⟩

theorem once_3 (V : Valuation τ sig (Elt Ideal)) (h : Once x l V) : Once x l (after bin3Ops V) :=
  ⟨(bin3_keep V main_v11 (by decide)).trans h.1, (bin3_keep V main_v20 (by decide)).trans h.2.1, (bin3_keep V main_v18 (by decide)).trans h.2.2.1,
    (bin3_keep V main_v19 (by decide)).trans h.2.2.2.1, (bin3_keep V main_v16 (by decide)).trans h.2.2.2.2⟩

theorem once_4 (V : Valuation τ sig (Elt Ideal)) (h : Once x l V) : Once x l (after bin4Ops V) :=
  ⟨(bin4_keep V main_v11 (by decide)).trans h.1, (bin4_keep V main_v20 (by decide)).trans h.2.1, (bin4_keep V main_v18 (by decide)).trans h.2.2.1,
    (bin4_keep V main_v19 (by decide)).trans h.2.2.2.1, (bin4_keep V main_v16 (by decide)).trans h.2.2.2.2⟩

theorem once_5 (V : Valuation τ sig (Elt Ideal)) (h : Once x l V) : Once x l (after bin5Ops V) :=
  ⟨(bin5_keep V main_v11 (by decide)).trans h.1, (bin5_keep V main_v20 (by decide)).trans h.2.1, (bin5_keep V main_v18 (by decide)).trans h.2.2.1,
    (bin5_keep V main_v19 (by decide)).trans h.2.2.2.1, (bin5_keep V main_v16 (by decide)).trans h.2.2.2.2⟩

theorem once_6 (V : Valuation τ sig (Elt Ideal)) (h : Once x l V) : Once x l (after bin6Ops V) :=
  ⟨(bin6_keep V main_v11 (by decide)).trans h.1, (bin6_keep V main_v20 (by decide)).trans h.2.1, (bin6_keep V main_v18 (by decide)).trans h.2.2.1,
    (bin6_keep V main_v19 (by decide)).trans h.2.2.2.1, (bin6_keep V main_v16 (by decide)).trans h.2.2.2.2⟩

theorem once_7 (V : Valuation τ sig (Elt Ideal)) (h : Once x l V) : Once x l (after bin7Ops V) :=
  ⟨(bin7_keep V main_v11 (by decide)).trans h.1, (bin7_keep V main_v20 (by decide)).trans h.2.1, (bin7_keep V main_v18 (by decide)).trans h.2.2.1,
    (bin7_keep V main_v19 (by decide)).trans h.2.2.2.1, (bin7_keep V main_v16 (by decide)).trans h.2.2.2.2⟩

theorem once_8 (V : Valuation τ sig (Elt Ideal)) (h : Once x l V) : Once x l (after bin8Ops V) :=
  ⟨(bin8_keep V main_v11 (by decide)).trans h.1, (bin8_keep V main_v20 (by decide)).trans h.2.1, (bin8_keep V main_v18 (by decide)).trans h.2.2.1,
    (bin8_keep V main_v19 (by decide)).trans h.2.2.2.1, (bin8_keep V main_v16 (by decide)).trans h.2.2.2.2⟩

theorem once_9 (V : Valuation τ sig (Elt Ideal)) (h : Once x l V) : Once x l (after bin9Ops V) :=
  ⟨(bin9_keep V main_v11 (by decide)).trans h.1, (bin9_keep V main_v20 (by decide)).trans h.2.1, (bin9_keep V main_v18 (by decide)).trans h.2.2.1,
    (bin9_keep V main_v19 (by decide)).trans h.2.2.2.1, (bin9_keep V main_v16 (by decide)).trans h.2.2.2.2⟩

variable (c : Fin 1048576 → ℝ) (hc : ∀ n, cfV (F := Ideal) x (ix1 n) = ((c n : ℝ) : EReal))
variable (b : Fin 1048576 → Fin 10) (hb : ∀ n, ((b n).val : ℝ) / 10 < c n ∧ c n ≤ (((b n).val + 1 : ℕ) : ℝ) / 10)

/-- A bin's contribution, of the rows' confidences and accuracies. -/
def part (i : Fin 10) : EReal := Ece.share b (fun n => cfV (F := Ideal) x (ix1 n)) (fun n => acV (F := Ideal) x l (ix1 n)) i

section Steps

include hc hb

theorem step_0 (V : Valuation τ sig (Elt Ideal)) (h : Once x l V) (w : EReal) (hw : V main_v21 = fun _ => w) :
    after bin0Ops V main_v47 = fun _ => w + part x l b 0 := by
  rw [bin0_read, add_bcast, h.1, h.2.1, h.2.2.1, h.2.2.2.1, hw,
    contribV_eq _ _ _ _ c hc b hb 0 ((cell_0 _).trans (lo_eq 0)) ((cell_0 _).trans (hi_eq 0))]
  rfl

theorem step_1 (V : Valuation τ sig (Elt Ideal)) (h : Once x l V) (w : EReal) (hw : V main_v47 = fun _ => w) :
    after bin1Ops V main_v73 = fun _ => w + part x l b 1 := by
  rw [bin1_read, add_bcast, h.1, h.2.1, h.2.2.1, h.2.2.2.1, hw,
    contribV_eq _ _ _ _ c hc b hb 1 ((cell_1 _).trans (lo_eq 1)) ((cell_1 _).trans (hi_eq 1))]
  rfl

theorem step_2 (V : Valuation τ sig (Elt Ideal)) (h : Once x l V) (w : EReal) (hw : V main_v73 = fun _ => w) :
    after bin2Ops V main_v99 = fun _ => w + part x l b 2 := by
  rw [bin2_read, add_bcast, h.1, h.2.1, h.2.2.1, h.2.2.2.1, hw,
    contribV_eq _ _ _ _ c hc b hb 2 ((cell_2 _).trans (lo_eq 2)) ((cell_2 _).trans (hi_eq 2))]
  rfl

theorem step_3 (V : Valuation τ sig (Elt Ideal)) (h : Once x l V) (w : EReal) (hw : V main_v99 = fun _ => w) :
    after bin3Ops V main_v125 = fun _ => w + part x l b 3 := by
  rw [bin3_read, add_bcast, h.1, h.2.1, h.2.2.1, h.2.2.2.1, hw,
    contribV_eq _ _ _ _ c hc b hb 3 ((cell_3 _).trans (lo_eq 3)) ((cell_3 _).trans (hi_eq 3))]
  rfl

theorem step_4 (V : Valuation τ sig (Elt Ideal)) (h : Once x l V) (w : EReal) (hw : V main_v125 = fun _ => w) :
    after bin4Ops V main_v151 = fun _ => w + part x l b 4 := by
  rw [bin4_read, add_bcast, h.1, h.2.1, h.2.2.1, h.2.2.2.1, hw,
    contribV_eq _ _ _ _ c hc b hb 4 ((cell_4 _).trans (lo_eq 4)) ((cell_4 _).trans (hi_eq 4))]
  rfl

theorem step_5 (V : Valuation τ sig (Elt Ideal)) (h : Once x l V) (w : EReal) (hw : V main_v151 = fun _ => w) :
    after bin5Ops V main_v177 = fun _ => w + part x l b 5 := by
  rw [bin5_read, add_bcast, h.1, h.2.1, h.2.2.1, h.2.2.2.1, hw,
    contribV_eq _ _ _ _ c hc b hb 5 ((cell_5 _).trans (lo_eq 5)) ((cell_5 _).trans (hi_eq 5))]
  rfl

theorem step_6 (V : Valuation τ sig (Elt Ideal)) (h : Once x l V) (w : EReal) (hw : V main_v177 = fun _ => w) :
    after bin6Ops V main_v203 = fun _ => w + part x l b 6 := by
  rw [bin6_read, add_bcast, h.1, h.2.1, h.2.2.1, h.2.2.2.1, hw,
    contribV_eq _ _ _ _ c hc b hb 6 ((cell_6 _).trans (lo_eq 6)) ((cell_6 _).trans (hi_eq 6))]
  rfl

theorem step_7 (V : Valuation τ sig (Elt Ideal)) (h : Once x l V) (w : EReal) (hw : V main_v203 = fun _ => w) :
    after bin7Ops V main_v229 = fun _ => w + part x l b 7 := by
  rw [bin7_read, add_bcast, h.1, h.2.1, h.2.2.1, h.2.2.2.1, hw,
    contribV_eq _ _ _ _ c hc b hb 7 ((cell_7 _).trans (lo_eq 7)) ((cell_7 _).trans (hi_eq 7))]
  rfl

theorem step_8 (V : Valuation τ sig (Elt Ideal)) (h : Once x l V) (w : EReal) (hw : V main_v229 = fun _ => w) :
    after bin8Ops V main_v255 = fun _ => w + part x l b 8 := by
  rw [bin8_read, add_bcast, h.1, h.2.1, h.2.2.1, h.2.2.2.1, hw,
    contribV_eq _ _ _ _ c hc b hb 8 ((cell_8 _).trans (lo_eq 8)) ((cell_8 _).trans (hi_eq 8))]
  rfl

theorem step_9 (V : Valuation τ sig (Elt Ideal)) (h : Once x l V) (w : EReal) (hw : V main_v255 = fun _ => w) :
    after bin9Ops V main_v281 = fun _ => w + part x l b 9 := by
  rw [bin9_read, add_bcast, h.1, h.2.1, h.2.2.1, h.2.2.2.1, hw,
    contribV_eq _ _ _ _ c hc b hb 9 ((cell_9 _).trans (lo_eq 9)) ((cell_9 _).trans (hi_eq 9))]
  rfl

theorem ends (V : Valuation τ sig (Elt Ideal)) (hx : V main_arg0 = x) (hl : V main_arg1 = l) :
    after refOps V main_v281 = (fun _ => ∑ i : Fin 10, part x l b i)
      ∧ after refOps V main_v16 = fun _ => Ideal.div (∑ n, acV (F := Ideal) x l (ix1 n)) (Ideal.ofBits .f32 1233125376#32) := by
  subst hx hl
  have o : Once (V main_arg0) (V main_arg1) (after headOps V) := ⟨head_v11 V, head_v20 V, head_v18 V, head_v19 V, head_v16 V⟩
  have w : after headOps V main_v21 = fun _ => (0 : EReal) := by
    rw [head_v21]
    funext i
    exact Ideal.ofBits_zero_f32
  unfold refOps
  simp only [after_app]
  generalize after headOps V = W at o w ⊢
  have w1 := step_0 _ _ c hc b hb _ o _ w
  have o1 := once_0 _ _ _ o
  have w2 := step_1 _ _ c hc b hb _ o1 _ w1
  have o2 := once_1 _ _ _ o1
  have w3 := step_2 _ _ c hc b hb _ o2 _ w2
  have o3 := once_2 _ _ _ o2
  have w4 := step_3 _ _ c hc b hb _ o3 _ w3
  have o4 := once_3 _ _ _ o3
  have w5 := step_4 _ _ c hc b hb _ o4 _ w4
  have o5 := once_4 _ _ _ o4
  have w6 := step_5 _ _ c hc b hb _ o5 _ w5
  have o6 := once_5 _ _ _ o5
  have w7 := step_6 _ _ c hc b hb _ o6 _ w6
  have o7 := once_6 _ _ _ o6
  have w8 := step_7 _ _ c hc b hb _ o7 _ w7
  have o8 := once_7 _ _ _ o7
  have w9 := step_8 _ _ c hc b hb _ o8 _ w8
  have o9 := once_8 _ _ _ o8
  have w10 := step_9 _ _ c hc b hb _ o9 _ w9
  have o10 := once_9 _ _ _ o9
  refine ⟨w10.trans (funext fun _ => ?_), o10.2.2.2.2.trans (funext fun i => ?_)⟩
  · simp only [Fin.sum_univ_castSucc, Finset.univ_eq_empty, Finset.sum_empty]
    rfl
  · obtain rfl : i = ix0 := funext fun a => a.elim0
    rw [← sumV_eq]
    rfl

end Steps

end Cert.Proof.R

end
-- ==== Proof.KerOps.lean ====
/-
  The host operations of the program on the ideal number system: the bounds, the labels in blocks, the dense results
  flattened, and the two results from the histogram's rows.
-/
module

public import proofs.«01_k».proof.Proof.Launch
public import proofs.«01_k».proof.Proof.RefVals

@[expose] public section

set_option maxRecDepth 8192

noncomputable section

namespace Cert.Proof.KI

open Cert.KernelIdeal Cert.KernelIdeal.Gen Cert.KernelIdeal.Facts

open Idealize.ShloMosaic Idealize.ShloMosaic.StableHlo
open Idealize.ShloMosaic.TcCoe

variable {F : FTy → Type} [FloatOps F]

section Staged

variable (m : (ℓ : Loc nD τ sig) → Buf (Elt F) ℓ) (d : Dev nD)

theorem VA_v0 : VA m d main_v0 = (R.linV : Vec F S11 .f32) := by
  unfold VA opsA
  after_results
  rfl

theorem VA_v1 : VA m d main_v1 = shapeCast S512x1x2048 (V0 m d main_arg1 : Vec F S1048576 .i32) shapeCasts_S1048576_S512x1x2048 := by
  unfold VA opsA
  after_results
  rfl

theorem VA_arg0 : VA m d main_arg0 = V0 m d main_arg0 := after_unwritten opsAW opsA_writes (by decide) _

theorem VC_v3 : VC m d main_v3 = shapeCast S1048576 (binA (VA m d main_v0) (VA m d main_arg0)) shapeCasts_S512x1x2048_S1048576 := by
  rw [← exitV_2 (VA m d)]
  show after opsB (VB m d) main_v3 = _
  unfold opsB VB
  after_results
  rfl

theorem VC_v4 : VC m d main_v4 = shapeCast S1048576 (confA (VA m d main_arg0)) shapeCasts_S512x1x2048_S1048576 := by
  rw [← exitV_0 (VA m d)]
  show after opsB (VB m d) main_v4 = _
  unfold opsB VB
  after_results
  rfl

theorem VC_v5 : VC m d main_v5 = shapeCast S1048576 (accA (VA m d main_arg0) (VA m d main_v1)) shapeCasts_S512x1x2048_S1048576 := by
  rw [← exitV_1 (VA m d)]
  show after opsB (VB m d) main_v5 = _
  unfold opsB VB
  after_results
  rfl

end Staged

/-! ## The two results -/

/-- The tasks' rows summed. -/
def totV (h : Vec F S32x3x16 .f32) : Vec F S3x16 .f32 := Host.reduceAdd h (constant S_ .f32 0x00000000#32) reducesTo_S32x3x16_S3x16_d0 h_S_

/-- The first ten cells of each row: the counts, the confidences' sums, the accuracies' sums. -/
def cntV (h : Vec F S32x3x16 .f32) : Vec F S10 .f32 := shapeCast S10 (extractStridedSlice S1x10 ![0, 0] (totV h) slices_S3x16_S1x10_0_0) shapeCasts_S1x10_S10
def csumV (h : Vec F S32x3x16 .f32) : Vec F S10 .f32 := shapeCast S10 (extractStridedSlice S1x10 ![1, 0] (totV h) slices_S3x16_S1x10_1_0) shapeCasts_S1x10_S10
def asumV (h : Vec F S32x3x16 .f32) : Vec F S10 .f32 := shapeCast S10 (extractStridedSlice S1x10 ![2, 0] (totV h) slices_S3x16_S1x10_2_0) shapeCasts_S1x10_S10

/-- The bins' contributions. -/
def sharesV (c s a : Vec F S10 .f32) : Vec F S10 .f32 :=
  select (cmpf .ogt c (broadcastInDim S10 ![] bcast_S_S10 (constant S_ .f32 0x00000000#32)))
    (mulf (Host.absf (subf (Host.divf s (maximumf c (broadcastInDim S10 ![] bcast_S_S10 (constant S_ .f32 0x3F800000#32))))
        (Host.divf a (maximumf c (broadcastInDim S10 ![] bcast_S_S10 (constant S_ .f32 0x3F800000#32))))))
      (Host.divf c (broadcastInDim S10 ![] bcast_S_S10 (constant S_ .f32 0x49800000#32))))
    (broadcastInDim S10 ![] bcast_S_S10 (constant S_ .f32 0x00000000#32))

theorem ops_v27 (V : Valuation τ sig (Elt F)) :
    after opsC V main_v27 = broadcastInDim S1 ![] bcast_S_S1 (Host.reduceAdd (sharesV (cntV (V main_v6)) (csumV (V main_v6)) (asumV (V main_v6)))
      (constant S_ .f32 0x00000000#32) reducesTo_S10_S_d0 h_S_) := by
  unfold opsC
  after_results
  rfl

theorem ops_v31 (V : Valuation τ sig (Elt F)) :
    after opsC V main_v31 = Host.divf (Host.reduceAdd (shapeCast S16 (extractStridedSlice S1x16 ![2, 0] (totV (V main_v6)) slices_S3x16_S1x16_2_0) shapeCasts_S1x16_S16)
      (constant S_ .f32 0x00000000#32) reducesTo_S16_S_d0 h_S_) (constant S_ .f32 0x49800000#32) := by
  unfold opsC
  after_results
  rfl

theorem totV_at (h : Vec Ideal S32x3x16 .f32) (a : Fin 3) (j : Fin 16) :
    totV (F := Ideal) h (ix2 a j) = ∑ t : Fin 32, h (Idealize.ShloMosaic.ix3 t a j) := by
  unfold totV
  pointwise

theorem cntV_at (h : Vec Ideal S32x3x16 .f32) (j : Fin 10) : cntV (F := Ideal) h (ix1 j) = totV (F := Ideal) h (ix2 0 ⟨j.val, by omega⟩) := by
  unfold cntV
  pointwise

theorem csumV_at (h : Vec Ideal S32x3x16 .f32) (j : Fin 10) : csumV (F := Ideal) h (ix1 j) = totV (F := Ideal) h (ix2 1 ⟨j.val, by omega⟩) := by
  unfold csumV
  pointwise

theorem asumV_at (h : Vec Ideal S32x3x16 .f32) (j : Fin 10) : asumV (F := Ideal) h (ix1 j) = totV (F := Ideal) h (ix2 2 ⟨j.val, by omega⟩) := by
  unfold asumV
  pointwise

theorem sharesV_at (c s a : Vec Ideal S10 .f32) (j : Fin 10) : sharesV (F := Ideal) c s a (ix1 j) = Ece.contr (c (ix1 j)) (s (ix1 j)) (a (ix1 j)) := by
  unfold sharesV Ece.contr
  pointwise

theorem sum10 (x : Vec Ideal S10 .f32) (i : S1.Idx) :
    broadcastInDim S1 ![] bcast_S_S1 (Host.reduceAdd (F := Ideal) (φ := .f32) x (constant (F := Ideal) S_ .f32 0x00000000#32) reducesTo_S10_S_d0 h_S_) i = ∑ j : Fin 10, x (ix1 j) := by
  have h : i = ix1 0 := by
    funext a
    match a with
    | ⟨0, _⟩ => exact Subsingleton.elim (α := Fin 1) _ _
  rw [h]
  pointwise

theorem sum16 (x : Vec Ideal S3x16 .f32) (i : S_.Idx) :
    Host.divf (F := Ideal) (φ := .f32) (Host.reduceAdd (F := Ideal) (φ := .f32) (shapeCast S16 (extractStridedSlice S1x16 ![2, 0] x slices_S3x16_S1x16_2_0) shapeCasts_S1x16_S16)
      (constant (F := Ideal) S_ .f32 0x00000000#32) reducesTo_S16_S_d0 h_S_) (constant (F := Ideal) S_ .f32 0x49800000#32) i
      = Ideal.div (∑ j : Fin 16, x (ix2 2 j)) (Ideal.ofBits .f32 1233125376#32) := by
  obtain rfl : i = ix0 := funext fun a => a.elim0
  pointwise

end Cert.Proof.KI

end
-- ==== Proof.Rows.lean ====
/-
  One row of a block on the ideal number system: its confidence, whether its predicted column is its label, and its bin.
-/
module

public import proofs.«01_k».proof.Proof.Tile
public import proofs.«01_k».proof.Proof.Math
public import Idealize.ShloMosaic.Lib.Pointwise.Tactic
public import Idealize.ShloMosaic.Lib.Pointwise.Reduce

@[expose] public section

noncomputable section

namespace Cert.Proof.KI

open Cert.KernelIdeal Cert.KernelIdeal.Gen
open Idealize.ShloMosaic

theorem ixb_eq (r : Fin 2048) : ixb r = Idealize.ShloMosaic.ix3 0 0 r := by
  funext a
  match a with
  | ⟨0, _⟩ => rfl
  | ⟨1, _⟩ => rfl
  | ⟨2, _⟩ => rfl

variable (x : Vec Ideal S2048x100 .f32) (r : Fin 2048) (X : Fin 100 → ℝ) (hX : ∀ k, x (Idealize.ShloMosaic.ix2 r k) = ((X k : ℝ) : EReal))
variable (k : Fin 100) (hk : Ece.IsArg (fun j => ((X j : ℝ) : EReal)) k)

include hX hk

theorem pay5_row : k0_pay5 (F := Ideal) x (Idealize.ShloMosaic.ix1 r) = ((Ece.conf X k : ℝ) : EReal) := by
  unfold k0_pay5 k0_pay4
  pointwise
  simp only [hX]
  rw [Ece.ofBits_bot, Ece.fold_max_eq (fun j => ((X j : ℝ) : EReal)) k hk.le, Ece.sum_exp]
  exact Ece.div_coe 1 _ (Ece.one_le_rowSum X k)

theorem confV_row : confV (F := Ideal) x (ixb r) = ((Ece.conf X k : ℝ) : EReal) := by
  rw [ixb_eq, ← pay5_row x r X hX k hk]
  unfold confV k0_pay1
  pointwise

theorem accV_row (l : Vec Ideal S1x1x2048 .i32) :
    accV (F := Ideal) x l (ixb r) = if BitVec.ofNat 32 k.val = l (ixb r) then 1 else (0 : EReal) := by
  rw [ixb_eq]
  unfold accV k0_pay2 k0_pay6 k0_pay4
  pointwise
  simp only [hX]
  rw [Ece.ofBits_bot, Ece.fold_max_eq (fun j => ((X j : ℝ) : EReal)) k hk.le, Ece.fold_minsi_eq (fun j => ((X j : ℝ) : EReal)) k hk]
  unfold IntOp.cmpi
  by_cases e : BitVec.ofNat 32 k.val = l (Idealize.ShloMosaic.ix3 0 0 r)
  · rw [if_pos e, e]
    simp [FloatOps.sitofp]
  · rw [if_neg e]
    simp only [beq_eq_false_iff_ne.2 e]
    simp [FloatOps.sitofp]

theorem binV_row (b : Vec Ideal S11 .f32) (hb : ∀ j : Fin 11, j.val < 10 → b (ix11 j) = (((j.val : ℝ) / 10 : ℝ) : EReal))
    (i : Fin 10) (hi : (i.val : ℝ) / 10 < Ece.conf X k ∧ Ece.conf X k ≤ ((i.val + 1 : ℕ) : ℝ) / 10) :
    (binV (F := Ideal) b x (ixb r)).toNat = i.val := by
  rw [ixb_eq]
  unfold binV k0_pay3 k0_pay7 k0_pay8
  rw [hb 1 (by decide), hb 2 (by decide), hb 3 (by decide), hb 4 (by decide), hb 5 (by decide), hb 6 (by decide), hb 7 (by decide), hb 8 (by decide), hb 9 (by decide)]
  pointwise
  have hd : ∀ j : ℕ, decide ((((j : ℝ) / 10 : ℝ) : EReal) < ((Ece.conf X k : ℝ) : EReal)) = decide (j ≤ i.val) :=
    fun j => decide_eq_decide.2 (EReal.coe_lt_coe_iff.trans (Ece.bound_iff _ i hi j))
  rw [pay5_row x r X hX k hk]
  simp only [hd]
  clear hi hd
  revert i
  decide

end Cert.Proof.KI

end
-- ==== Proof.Hist.lean ====
/-
  What the histogram stage's tasks leave, over extended reals: summed over the tasks, each bin's sum over all the rows.
-/
module

public import proofs.«01_k».proof.Proof.Tile
public import proofs.«01_k».proof.Proof.Math

@[expose] public section

noncomputable section

namespace Cert.Proof.KI

open Cert.KernelIdeal Cert.KernelIdeal.Gen
open Idealize.ShloMosaic
open scoped BigOperators

/-- A word of an accumulator, and a lane. -/
def ixa (n : ℕ) : S256.Idx := fun | ⟨0, _⟩ => ⟨n % 256, Nat.mod_lt _ (by decide)⟩
def ixl (n : ℕ) : S16.Idx := fun | ⟨0, _⟩ => ⟨n % 16, Nat.mod_lt _ (by decide)⟩

/-- A run of lanes each adding at its own word. -/
theorem foldl_add {ι J : Type} [DecidableEq J] (P : ι → J → Prop) [∀ k j, Decidable (P k j)] (i : ι → J) (w : ι → EReal)
    (h : ∀ k j, P k j → i k = j) (L : List ι) (f : J → EReal) (j : J) :
    L.foldl (fun g k j => if P k j then g (i k) + w k else g j) f j = f j + (L.map fun k => if P k j then w k else 0).sum := by
  induction L generalizing f with
  | nil => simp
  | cons k L ih =>
    rw [List.foldl_cons, ih, List.map_cons, List.sum_cons, ← add_assoc]
    congr 1
    split_ifs with hp
    · rw [h k j hp]
    · simp

theorem scat_apply (f : Vec Ideal S256 .f32) (b : IVec S16 32) (hb : ∀ y, (b y).toNat < 16) (v : Vec Ideal S16 .f32) (m : ℕ) (hm : m < 256) :
    scat (F := Ideal) f b v (ixa m) = (f (ixa m) + ∑ l ∈ Finset.range 16, if 16 * l + (b (ixl l)).toNat = m then v (ixl l) else 0 : EReal) := by
  unfold scat
  rw [dif_pos (chk_of_lt b hb)]
  unfold storeIdx
  have e := foldl_add (ι := Fin 16) (J := S256.Idx)
    (fun k j => ∀ a, (j a).val = (idxAt ![addi k1_pay2 b] (k1_idx1_inb _ (chk_of_lt b hb)) (Shape.ofLane k) a).val)
    (fun k => idxAt ![addi k1_pay2 b] (k1_idx1_inb _ (chk_of_lt b hb)) (Shape.ofLane k)) (fun k => v (Shape.ofLane k))
    (fun k j h => funext fun a => Fin.ext (h a).symm) (List.finRange 16) f (ixa m)
  refine Eq.trans ?_ (e.trans ?_)
  · refine congrFun (congrArg (fun step => List.foldl step f (List.finRange 16)) (funext fun g => funext fun k => ?_)) _
    refine (if_pos rfl).trans (funext fun j => ?_)
    by_cases hp : ∀ a : Fin S256.rank, (j a).val = (idxAt ![addi k1_pay2 b] (k1_idx1_inb _ (chk_of_lt b hb)) (Shape.ofLane k) a).val
    · exact (if_pos hp).trans ((if_pos rfl).trans (if_pos hp).symm)
    · exact (if_neg hp).trans (if_neg hp).symm
  · rw [← Fin.sum_univ_def, Finset.sum_range]
    congr 1
    refine Finset.sum_congr rfl fun l _ => ?_
    have el : Shape.ofLane l = ixl l.val := by
      funext a
      obtain ⟨a, ha⟩ := a
      obtain rfl : a = 0 := Nat.lt_one_iff.mp ha
      apply Fin.ext
      show l.val = l.val % 16
      rw [Nat.mod_eq_of_lt l.isLt]
    rw [el]
    refine if_congr ?_ rfl rfl
    have h1 := pay2_val (ixl l.val)
    have h2 := hb (ixl l.val)
    have h3 : ((ixl l.val) 0).val = l.val := Nat.mod_eq_of_lt l.isLt
    have h4 : (addi k1_pay2 b (ixl l.val)).toNat = 16 * l.val + (b (ixl l.val)).toNat := by
      show (k1_pay2 (ixl l.val) + b (ixl l.val)).toNat = _
      have := l.isLt
      rw [BitVec.toNat_add, h1, h3]; omega
    constructor
    · intro h
      have h5 := h 0
      have h6 : m % 256 = (addi k1_pay2 b (ixl l.val)).toNat := h5
      rw [h4, Nat.mod_eq_of_lt hm] at h6
      exact h6.symm
    · intro h a
      obtain ⟨a, ha⟩ := a
      obtain rfl : a = 0 := Nat.lt_one_iff.mp ha
      show m % 256 = (addi k1_pay2 b (ixl l.val)).toNat
      rw [h4, Nat.mod_eq_of_lt hm, h]

variable (B : Vec Ideal S1048576 .i32) (hB : ∀ x, (B x).toNat < 16)

/-- The bin of row `n`. -/
def bn (n : ℕ) : ℕ := (B (ixw n)).toNat

include hB in
theorem accum_apply (v : ℕ → Vec Ideal S16 .f32) (w : ℕ → EReal) (hv : ∀ n l, l < 16 → v n (ixl l) = w (n + l)) (n k m : ℕ) (hm : m < 256) :
    accum (F := Ideal) B v n k (ixa m)
      = ∑ i ∈ Finset.range k, ∑ l ∈ Finset.range 16, if 16 * l + bn B (n + 16 * i + l) = m then w (n + 16 * i + l) else 0 := by
  induction k with
  | zero => exact Ideal.ofBits_zero_f32
  | succ k ih =>
    rw [Finset.sum_range_succ, ← ih]
    refine (scat_apply _ _ (fun _ => hB _) _ m hm).trans ?_
    congr 1
    refine Finset.sum_congr rfl fun l hl => ?_
    have hl' := Finset.mem_range.1 hl
    rw [hv _ _ hl']
    show (if 16 * l + (B (ixw (n + 16 * k + l % 16))).toNat = m then _ else _) = _
    rw [Nat.mod_eq_of_lt hl']; rfl

include hB in
theorem bn_lt (n : ℕ) : bn B n < 16 := hB _

theorem rsum_apply (f : Vec Ideal S256 .f32) (k : ℕ) (hk : k ≤ 16) (j : ℕ) (hj : j < 16) :
    rsum (F := Ideal) f k (ixl j) = ∑ r ∈ Finset.range k, f (ixa (16 * r + j)) := by
  induction k with
  | zero => exact Ideal.ofBits_zero_f32
  | succ k ih =>
    rw [Finset.sum_range_succ, ← ih (by omega)]
    show rsum (F := Ideal) f k (ixl j) + f _ = _
    congr 2
    funext a
    obtain ⟨a, ha⟩ := a
    obtain rfl : a = 0 := Nat.lt_one_iff.mp ha
    apply Fin.ext
    show (16 * k + j % 16) % 256 = (16 * k + j) % 256
    rw [Nat.mod_eq_of_lt hj]

include hB in
/-- A task's sum of one bin. -/
theorem task_apply (v : ℕ → Vec Ideal S16 .f32) (w : ℕ → EReal) (hv : ∀ n l, l < 16 → v n (ixl l) = w (n + l)) (n j : ℕ) (hj : j < 16) :
    rsum (F := Ideal) (accum (F := Ideal) B v n 2048) 16 (ixl j)
      = ∑ l ∈ Finset.range 16, ∑ k ∈ Finset.range 2048, if bn B (n + 16 * k + l) = j then w (n + 16 * k + l) else 0 := by
  rw [rsum_apply _ 16 le_rfl j hj]
  have e : ∀ r ∈ Finset.range 16, accum (F := Ideal) B v n 2048 (ixa (16 * r + j))
      = ∑ l ∈ Finset.range 16, ∑ i ∈ Finset.range 2048, if 16 * l + bn B (n + 16 * i + l) = 16 * r + j then w (n + 16 * i + l) else 0 := by
    intro r hr
    have := Finset.mem_range.1 hr
    rw [accum_apply B hB v w hv n 2048 _ (by omega), Finset.sum_comm]
  rw [Finset.sum_congr rfl e, Finset.sum_comm]
  refine Finset.sum_congr rfl fun l hl => ?_
  rw [Finset.sum_comm]
  refine Finset.sum_congr rfl fun i _ => ?_
  rw [Finset.sum_eq_single_of_mem l hl]
  · refine if_congr ⟨fun h => by omega, fun h => by omega⟩ rfl rfl
  · intro r _ hr
    have := bn_lt B hB (n + 16 * i + l)
    exact if_neg fun h => hr (by omega)

include hB in
/-- All tasks' sum of one bin. -/
theorem tasks_apply (v : ℕ → Vec Ideal S16 .f32) (w : ℕ → EReal) (hv : ∀ n l, l < 16 → v n (ixl l) = w (n + l)) (j : ℕ) (hj : j < 16) :
    ∑ t ∈ Finset.range 32, rsum (F := Ideal) (accum (F := Ideal) B v (32768 * t) 2048) 16 (ixl j)
      = ∑ n ∈ Finset.range 1048576, if bn B n = j then w n else 0 := by
  rw [← Ece.sum_tasks]
  exact Finset.sum_congr rfl fun t _ => task_apply B hB v w hv _ j hj

/-- What a row adds to row `a` of the statistics: one, its confidence, its accuracy. -/
def term (C A : Vec Ideal S1048576 .f32) (a : Fin 3) (n : ℕ) : EReal :=
  match a with
  | 0 => 1
  | 1 => C (ixw n)
  | 2 => A (ixw n)

theorem tileRow_0 (C A : Vec Ideal S1048576 .f32) (t : ℕ) :
    tileRow (F := Ideal) B C A t 0 = rsum (F := Ideal) (accum (F := Ideal) B (fun _ => k1_pay3 (F := Ideal)) (32768 * t) 2048) 16 := by unfold tileRow; rfl
theorem tileRow_1 (C A : Vec Ideal S1048576 .f32) (t : ℕ) :
    tileRow (F := Ideal) B C A t 1 = rsum (F := Ideal) (accum (F := Ideal) B (lanes C) (32768 * t) 2048) 16 := by unfold tileRow; rfl
theorem tileRow_2 (C A : Vec Ideal S1048576 .f32) (t : ℕ) :
    tileRow (F := Ideal) B C A t 2 = rsum (F := Ideal) (accum (F := Ideal) B (lanes A) (32768 * t) 2048) 16 := by unfold tileRow; rfl

include hB in
theorem hist_apply (C A : Vec Ideal S1048576 .f32) (a : Fin 3) (j : Fin 16) :
    ∑ t : Fin 32, histA (F := Ideal) B C A (Idealize.ShloMosaic.ix3 t a j)
      = ∑ n ∈ Finset.range 1048576, if bn B n = j.val then term C A a n else 0 := by
  have key : ∀ (v : ℕ → Vec Ideal S16 .f32) (w : ℕ → EReal), (∀ n l, l < 16 → v n (ixl l) = w (n + l)) →
      (∀ t : Fin 32, histA (F := Ideal) B C A (Idealize.ShloMosaic.ix3 t a j) = rsum (F := Ideal) (accum (F := Ideal) B v (32768 * t.val) 2048) 16 (ixl j.val)) →
      ∑ t : Fin 32, histA (F := Ideal) B C A (Idealize.ShloMosaic.ix3 t a j) = ∑ n ∈ Finset.range 1048576, if bn B n = j.val then w n else 0 := by
    intro v w hv h
    rw [← tasks_apply B hB v w hv j.val j.isLt, Finset.sum_range]
    exact Finset.sum_congr rfl fun t _ => h t
  have h0 : ∀ t : Fin 32, histA (F := Ideal) B C A (Idealize.ShloMosaic.ix3 t a j) = tileRow (F := Ideal) B C A t.val a (ixl j.val) := by
    intro t
    unfold histA
    refine congrArg (tileRow (F := Ideal) B C A t.val a) (funext fun x => ?_)
    obtain ⟨x, hx⟩ := x
    obtain rfl : x = 0 := Nat.lt_one_iff.mp hx
    apply Fin.ext
    show j.val = j.val % 16
    rw [Nat.mod_eq_of_lt j.isLt]
  have hl : ∀ (D : Vec Ideal S1048576 .f32) (n l : ℕ), l < 16 → lanes (F := Ideal) D n (ixl l) = D (ixw (n + l)) := by
    intro D n l h
    show D (ixw (n + l % 16)) = _
    rw [Nat.mod_eq_of_lt h]
  match a with
  | 0 => exact key (fun _ => k1_pay3 (F := Ideal)) (fun _ => 1) (fun _ _ _ => Ideal.ofBits_one_f32) fun t => (h0 t).trans (congrFun (tileRow_0 B C A t.val) _)
  | 1 => exact key (lanes C) (fun n => C (ixw n)) (fun n l h => hl C n l h) fun t => (h0 t).trans (congrFun (tileRow_1 B C A t.val) _)
  | 2 => exact key (lanes A) (fun n => A (ixw n)) (fun n l h => hl A n l h) fun t => (h0 t).trans (congrFun (tileRow_2 B C A t.val) _)

end Cert.Proof.KI

end
-- ==== Proof.KerEnd.lean ====
/-
  The program's two results on the ideal number system: the sum of the bins' contributions, and the mean accuracy.
-/
module

public import proofs.«01_k».proof.Proof.KerOps
public import proofs.«01_k».proof.Proof.Rows
public import proofs.«01_k».proof.Proof.Hist

@[expose] public section

set_option maxRecDepth 8192

noncomputable section

namespace Cert.Proof.KI

open Cert.KernelIdeal Cert.KernelIdeal.Gen Cert.KernelIdeal.Facts

open Idealize.ShloMosaic Idealize.ShloMosaic.StableHlo
open Idealize.ShloMosaic.TcCoe

/-- Row `n`'s block. -/
def blk (n : Fin 1048576) : Fin 512 := ⟨n.val / 2048, by omega⟩
/-- Its place there. -/
def plc (n : Fin 1048576) : Fin 2048 := ⟨n.val % 2048, Nat.mod_lt _ (by decide)⟩

theorem rowN_blk (n : Fin 1048576) : rowN (blk n) (plc n) = n := Fin.ext (Nat.div_add_mod n.val 2048)

theorem ixr_eq (n : Fin 1048576) (k : Fin 100) : ixr n k = ix2 n k := by
  funext a
  match a with
  | ⟨0, _⟩ => rfl
  | ⟨1, _⟩ => rfl

theorem ix3_eq (t : Fin 512) (r : Fin 2048) : ix3 t r = Idealize.ShloMosaic.ix3 t 0 r := by
  funext a
  match a with
  | ⟨0, _⟩ => rfl
  | ⟨1, _⟩ => rfl
  | ⟨2, _⟩ => rfl

theorem ixw_eq (n : Fin 1048576) : ixw n.val = ix1 n := by
  funext a
  match a with
  | ⟨0, _⟩ => exact Fin.ext (Nat.mod_eq_of_lt n.isLt)

theorem flat_at {α : Type} (f : S512x1x2048.Idx → α) (n : Fin 1048576) :
    shapeCast S1048576 f shapeCasts_S512x1x2048_S1048576 (ix1 n) = f (Idealize.ShloMosaic.ix3 (blk n) 0 (plc n)) := by
  pointwise
  rfl

theorem blocks_at {α : Type} (f : S1048576.Idx → α) (t : Fin 512) (r : Fin 2048) :
    shapeCast S512x1x2048 f shapeCasts_S1048576_S512x1x2048 (Idealize.ShloMosaic.ix3 t 0 r) = f (ix1 (rowN t r)) := by
  pointwise
  congr 2
  apply Fin.ext
  show t.val * 2048 + r.val = 2048 * t.val + r.val
  omega

theorem rowsOf_at (x : Vec Ideal S1048576x100 .f32) (n : Fin 1048576) (k : Fin 100) : rowsOf (F := Ideal) x (blk n) (ix2 (plc n) k) = x (ix2 n k) := by
  show x (ixr (rowN (blk n) (plc n)) k) = _
  rw [rowN_blk, ixr_eq]

section Ends

variable (m : (ℓ : Loc nD τ sig) → Buf (Elt Ideal) ℓ) (d : Dev nD)
variable (x : Vec Ideal S1048576x100 .f32) (hx : V0 m d main_arg0 = x) (l : Vec Ideal S1048576 .i32) (hl : V0 m d main_arg1 = l)
variable (X : Fin 1048576 → Fin 100 → ℝ) (hX : ∀ n k, x (ix2 n k) = ((X n k : ℝ) : EReal))
variable (k : Fin 1048576 → Fin 100) (hk : ∀ n, Ece.IsArg (fun j => ((X n j : ℝ) : EReal)) (k n))
variable (b : Fin 1048576 → Fin 10)
variable (hb : ∀ n, ((b n).val : ℝ) / 10 < Ece.conf (X n) (k n) ∧ Ece.conf (X n) (k n) ≤ (((b n).val + 1 : ℕ) : ℝ) / 10)

include hx hX hk

theorem C_at (n : Fin 1048576) : VC m d main_v4 (ix1 n) = ((Ece.conf (X n) (k n) : ℝ) : EReal) := by
  rw [VC_v4, flat_at, VA_arg0, hx]
  exact confV_row (rowsOf (F := Ideal) x (blk n)) (plc n) (X n) (fun j => (rowsOf_at x n j).trans (hX n j)) (k n) (hk n)

include hl in
theorem A_at (n : Fin 1048576) : VC m d main_v5 (ix1 n) = if BitVec.ofNat 32 (k n).val = l (ix1 n) then 1 else (0 : EReal) := by
  rw [VC_v5, flat_at, VA_arg0, hx, VA_v1, hl]
  refine (accV_row (rowsOf (F := Ideal) x (blk n)) (plc n) (X n) (fun j => (rowsOf_at x n j).trans (hX n j)) (k n) (hk n) _).trans ?_
  have e : labsOf (F := Ideal) (shapeCast S512x1x2048 l shapeCasts_S1048576_S512x1x2048) (blk n) (ixb (plc n)) = l (ix1 n) := by
    show shapeCast S512x1x2048 l shapeCasts_S1048576_S512x1x2048 (ix3 (blk n) (plc n)) = _
    rw [ix3_eq, blocks_at, rowN_blk]
  rw [← e]
  rfl

include hb in
theorem B_at (n : Fin 1048576) : BitVec.toNat (VC m d main_v3 (ix1 n)) = (b n).val := by
  rw [VC_v3, flat_at, VA_arg0, hx, VA_v0]
  refine binV_row (rowsOf (F := Ideal) x (blk n)) (plc n) (X n) (fun j => (rowsOf_at x n j).trans (hX n j)) (k n) (hk n) _ (fun j hj => ?_) (b n) (hb n)
  refine Eq.trans (congrArg (R.linV (F := Ideal)) ?_) (R.linV_lt ⟨j.val, hj⟩)
  funext a
  match a with
  | ⟨0, _⟩ => rfl

omit hx hX hk in
/-- A cell of the summed histogram. -/
theorem cell_at (w : Fin 1048576 → EReal) (a : Fin 3) (hw : ∀ n, term (VC m d main_v4) (VC m d main_v5) a n.val = w n)
    (hB : ∀ n, BitVec.toNat (VC m d main_v3 (ix1 n)) = (b n).val) (j : Fin 16) :
    totV (F := Ideal) (histV m d) (ix2 a j) = ∑ n, if (b n).val = j.val then w n else 0 := by
  rw [totV_at]
  unfold histV
  rw [hist_apply (VC m d main_v3) (VC_bins m d) (VC m d main_v4) (VC m d main_v5) a j, Finset.sum_range]
  refine Finset.sum_congr rfl fun n _ => ?_
  have e : bn (VC m d main_v3) n.val = (b n).val := by
    unfold bn
    rw [ixw_eq, hB]
  rw [e, hw]

omit hx hX hk in
theorem split_at (w : Fin 1048576 → EReal) (j : Fin 10) :
    (∑ n, if (b n).val = (⟨j.val, Nat.lt_trans j.isLt (by decide)⟩ : Fin 16).val then w n else 0) = Ece.part b w j := by
  unfold Ece.part
  refine Finset.sum_congr rfl fun n _ => ?_
  by_cases h : b n = j
  · exact (if_pos (congrArg Fin.val h)).trans (if_pos h).symm
  · exact (if_neg fun e => h (Fin.ext e)).trans (if_neg h).symm

omit hx hX hk in
theorem once_at (w : Fin 1048576 → EReal) : (∑ j : Fin 16, ∑ n, if (b n).val = j.val then w n else 0) = ∑ n, w n := by
  rw [Finset.sum_comm]
  refine Finset.sum_congr rfl fun n _ => ?_
  rw [Finset.sum_eq_single (⟨(b n).val, Nat.lt_trans (b n).isLt (by decide)⟩ : Fin 16)]
  · exact if_pos rfl
  · intro j _ hj
    exact if_neg fun e => hj (Fin.ext e.symm)
  · intro h
    exact absurd (Finset.mem_univ _) h

include hl hb in
/-- The program's results. -/
theorem ends :
    VE m d main_v27 = (fun _ => ∑ i : Fin 10, Ece.share b (fun n => ((Ece.conf (X n) (k n) : ℝ) : EReal))
      (fun n => if BitVec.ofNat 32 (k n).val = l (ix1 n) then 1 else 0) i) ∧
    VE m d main_v31 = fun _ => Ideal.div (∑ n : Fin 1048576, if BitVec.ofNat 32 (k n).val = l (ix1 n) then 1 else 0) (Ideal.ofBits .f32 1233125376#32) := by
  have hB := B_at m d x hx X hX k hk b hb
  have h0 := cell_at m d b (fun _ => 1) 0 (fun _ => rfl) hB
  have h1 := cell_at m d b (fun n => ((Ece.conf (X n) (k n) : ℝ) : EReal)) 1
    (fun n => (congrArg (VC m d main_v4) (ixw_eq n)).trans (C_at m d x hx X hX k hk n)) hB
  have h2 := cell_at m d b (fun n => if BitVec.ofNat 32 (k n).val = l (ix1 n) then 1 else 0) 2
    (fun n => (congrArg (VC m d main_v5) (ixw_eq n)).trans (A_at m d x hx l hl X hX k hk n)) hB
  refine ⟨?_, ?_⟩
  · show after opsC (VD m d) main_v27 = _
    rw [ops_v27]
    funext i
    rw [sum10]
    refine Finset.sum_congr rfl fun j _ => ?_
    rw [sharesV_at, cntV_at, csumV_at, asumV_at, VD_v6, h0, h1, h2, split_at, split_at, split_at]
    rfl
  · show after opsC (VD m d) main_v31 = _
    rw [ops_v31]
    funext i
    rw [sum16, VD_v6, Finset.sum_congr rfl fun j _ => h2 j, once_at]

end Ends

end Cert.Proof.KI

end
-- ==== Proof.Finite.lean ====
/-
  What the claims' precondition says: every logit is a real number.
-/
module

public import proofs.«01_k».proof.Pre_finite
public import proofs.«01_k».proof.Proof.Math
public import Idealize.ShloMosaic.Lib.ReduceAll
public import Idealize.ShloMosaic.Lib.Pointwise.Tactic

@[expose] public section

noncomputable section

namespace Cert.Proof.Finite

open Idealize.ShloMosaic Cert.Pre_finite

theorem facts : Cert.Pre_finite.Facts := ⟨by decide, by decide, by decide⟩

/-- A number whose absolute value lies below infinity is real. -/
theorem real_of_abs (v : EReal) (h : max v (-v) < ⊤) : ∃ r : ℝ, v = (r : EReal) := by
  induction v with
  | bot => simp at h
  | coe r => exact ⟨r, rfl⟩
  | top => simp at h

variable [Cert.Pre_finite.Facts]

theorem real_of_fn (x : FVec Ideal S1048576x100 .f32) (l : IVec S1048576 32) (h : fn (F := Ideal) x l = fun _ => 1#1) (i : S1048576x100.Idx) :
    ∃ r : ℝ, x i = (r : EReal) := by
  have e : Host.reduce IntOp.andi (cmpf .olt (Host.absf x) (broadcastInDim S1048576x100 ![] Facts.bcast_S_S1048576x100 (constant (F := Ideal) S_ .f32 0x7F800000#32)))
      (constantI S_ 1 1#1) Facts.reducesTo_S1048576x100_S_d0_1 Facts.h_S_ (fun a => a.elim0) = 1#1 := congrFun h (fun a => a.elim0)
  haveI : Subsingleton S_.Idx := ⟨fun a b => funext fun c => c.elim0⟩
  have e' := Host.reduce_andi_all _ _ _ _ _ e i
  have e2 : BitVec.ofBool (decide (max (x i) (-(x i)) < Ideal.ofBits .f32 0x7F800000#32)) = 1#1 := e'
  refine real_of_abs (x i) ?_
  rw [← Ece.ofBits_top]
  by_contra hn
  simp [hn] at e2

end Cert.Proof.Finite

end
-- ==== Proof.lean ====
/- The certificate's claim: the runs of the kernel at its two instances and of the reference, and that the results agree. -/
module

public import proofs.«01_k».proof.Defs
public import proofs.«01_k».proof.Proof.LaunchB
public import proofs.«01_k».proof.Proof.Launch
public import proofs.«01_k».proof.Proof.RefRun
public import proofs.«01_k».proof.Proof.RefEnd
public import proofs.«01_k».proof.Proof.KerEnd
public import proofs.«01_k».proof.Proof.Finite

@[expose] public section

noncomputable section

namespace Cert.Proof

open Idealize.ShloMosaic Idealize.ShloMosaic.StableHlo Idealize.SL.Sem
open Idealize.ShloMosaic.TcCoe

/-- One device: from the same finite logits and the same labels, both programs' operations leave the same two results. -/
theorem agree (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (x : FVec Ideal Cert.Pre_finite.S1048576x100 .f32) (l : IVec Cert.Pre_finite.S1048576 32)
    (hx : KI.V0 m d Cert.KernelIdeal.main_arg0 = x) (hl : KI.V0 m d Cert.KernelIdeal.main_arg1 = l)
    (hx' : V Cert.ReferenceIdeal.main_arg0 = x) (hl' : V Cert.ReferenceIdeal.main_arg1 = l)
    (hr : ∀ i, ∃ r : ℝ, x i = (r : EReal)) :
    after R.refOps V Cert.ReferenceIdeal.main_v281 = KI.VE m d Cert.KernelIdeal.main_v27
      ∧ after R.refOps V Cert.ReferenceIdeal.main_v16 = KI.VE m d Cert.KernelIdeal.main_v31 := by
  choose X hX using fun (n : Fin 1048576) (k : Fin 100) => hr (ix2 n k)
  choose k hk using fun n => Ece.exists_arg (fun j => ((X n j : ℝ) : EReal))
  choose b hb using fun n => Ece.exists_bin (Ece.conf (X n) (k n)) (Ece.conf_pos _ _) (Ece.conf_le _ _)
  have hc := fun n => R.cfV_row x n (X n) (hX n) (k n) (hk n)
  have ha := fun n => R.acV_row x n (X n) (hX n) (k n) (hk n) l
  have e := R.ends x l (fun n => Ece.conf (X n) (k n)) hc b hb V hx' hl'
  have e' := KI.ends m d x hx l hl X hX k hk b hb
  rw [e.1, e.2, e'.1, e'.2]
  refine ⟨?_, ?_⟩
  · funext _
    refine Finset.sum_congr rfl fun i _ => ?_
    unfold R.part
    rw [funext hc, funext ha]
  · funext _
    rw [Finset.sum_congr rfl fun n _ => ha n]

theorem claim : Cert.Claim := ⟨Cert.Kernel.Gen.facts, Cert.KernelIdeal.Gen.facts, Cert.ReferenceIdeal.Gen.facts, Finite.facts,
  fun m g _ => (KB.run m g).mono fun _ h => ⟨fun c => (h.1 c).2.2, h.2⟩,
  fun m g _ => (KI.run m g).mono fun _ h => ⟨fun c => (h.1 c).2.2, h.2⟩,
  fun m g _ => (KI.run m g).mono fun _ h => ⟨fun c => (h.1 c).2.2, h.2⟩,
  fun m g _ => (R.run m g).mono fun _ h => ⟨fun c => (h.1 c).2.2, h.2⟩,
  fun m g _ => (R.run m g).mono fun _ h => ⟨fun c => (h.1 c).2.2, h.2⟩,
  trivial,
  fun m g m' g' hp hm => by
    have w := fun c => agree m c (launchContents m' c) _ _ rfl rfl (hm c).1 (hm c).2
      (haveI := Finite.facts; Finite.real_of_fn _ _ (hp c))
    exact ⟨fun c => KI.VE m c Cert.KernelIdeal.main_v27, fun c => KI.VE m c Cert.KernelIdeal.main_v31,
      (KI.run m g).mono fun _ h => h.1,
      (R.run m' g').mono fun _ h c => ⟨(h.1 c).1.trans (w c).1, (h.1 c).2.1.trans (w c).2, (h.1 c).2.2⟩⟩⟩

end Cert.Proof

end
